-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_KernelIdeal_ids_sorted_in_range [hPre_ids_sorted_in_range : Cert.Pre_ids_sorted_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_sorted_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_ids_sorted_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_sorted_in_range [hPre_ids_sorted_in_range : Cert.Pre_ids_sorted_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_sorted_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_ids_sorted_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2 = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_ids_sorted_in_range [hKernelIdeal : Cert.KernelIdeal.Facts] [hPre_ids_sorted_in_range : Cert.Pre_ids_sorted_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_sorted_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_ids_sorted_in_range [hReferenceIdeal : Cert.ReferenceIdeal.Facts] [hPre_ids_sorted_in_range : Cert.Pre_ids_sorted_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_sorted_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_ids_sorted_in_range [hKernelIdeal : Cert.KernelIdeal.Facts] [hReferenceIdeal : Cert.ReferenceIdeal.Facts] [hPre_ids_sorted_in_range : Cert.Pre_ids_sorted_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_sorted_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_sorted_in_range : Cert.Pre_ids_sorted_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_sorted_in_range (hKernelIdeal := hKernelIdeal) (hPre_ids_sorted_in_range := hPre_ids_sorted_in_range)
    ∧ quiescent_ReferenceIdeal (hReferenceIdeal := hReferenceIdeal)
    ∧ quiescent_ReferenceIdeal_pre_ids_sorted_in_range (hReferenceIdeal := hReferenceIdeal) (hPre_ids_sorted_in_range := hPre_ids_sorted_in_range)
    ∧ preserves_Kernel_KernelIdeal
    ∧ algebraic_KernelIdeal_ReferenceIdeal_pre_ids_sorted_in_range (hKernelIdeal := hKernelIdeal) (hReferenceIdeal := hReferenceIdeal) (hPre_ids_sorted_in_range := hPre_ids_sorted_in_range)
-- ==== Pre_ids_in_range.lean ====
abbrev S50000x512 : Shape := ⟨2, ![50000, 512]⟩
abbrev S50000 : Shape := ⟨1, ![50000]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x8 : Shape := ⟨2, ![256, 8]⟩
abbrev S8 : Shape := ⟨1, ![8]⟩
abbrev S_ : Shape := ⟨0, ![]⟩

class Facts : Prop where
  bcast_S_S50000 : S_.BroadcastsInDim S50000 (![] : Fin 0 → Fin S50000.rank)

variable [Facts]

def fn {F : FTy → Type} [FloatOps F] (main_arg0 : FVec F S50000x512 .f32) (main_arg1 : IVec S50000 32) (main_arg2 : FVec F S1024x512 .f32) (main_arg3 : FVec F S512 .f32) (main_arg4 : FVec F S512 .f32) (main_arg5 : FVec F S512 .f32) (main_arg6 : FVec F S512x256 .f32) (main_arg7 : FVec F S256 .f32) (main_arg8 : FVec F S256 .f32) (main_arg9 : FVec F S256 .f32) (main_arg10 : FVec F S256x8 .f32) (main_arg11 : FVec F S8 .f32) : IVec S50000 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 32 := constantI S_ 32 64#32
  let main_v2 : IVec S50000 32 := broadcastInDim S50000 ![] bcast_S_S50000 main_c_0
  let main_v3 : IVec S50000 1 := cmpi .slt main_arg1 main_v2
  let main_v4 : IVec S50000 1 := andi main_v1 main_v3
  main_v4
-- ==== Pre_ids_sorted_in_range.lean ====
abbrev S50000x512 : Shape := ⟨2, ![50000, 512]⟩
abbrev S50000 : Shape := ⟨1, ![50000]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x8 : Shape := ⟨2, ![256, 8]⟩
abbrev S8 : Shape := ⟨1, ![8]⟩
abbrev S_ : Shape := ⟨0, ![]⟩
abbrev S49999 : Shape := ⟨1, ![49999]⟩

class Facts : Prop where
  bcast_S_S50000 : S_.BroadcastsInDim S50000 (![] : Fin 0 → Fin S50000.rank)
  slices_S50000_S49999_0 : S50000.Slices ![0] S49999
  slices_S50000_S49999_1 : S50000.Slices ![1] S49999

variable [Facts]

def fn {F : FTy → Type} [FloatOps F] (main_arg0 : FVec F S50000x512 .f32) (main_arg1 : IVec S50000 32) (main_arg2 : FVec F S1024x512 .f32) (main_arg3 : FVec F S512 .f32) (main_arg4 : FVec F S512 .f32) (main_arg5 : FVec F S512 .f32) (main_arg6 : FVec F S512x256 .f32) (main_arg7 : FVec F S256 .f32) (main_arg8 : FVec F S256 .f32) (main_arg9 : FVec F S256 .f32) (main_arg10 : FVec F S256x8 .f32) (main_arg11 : FVec F S8 .f32) : IVec S50000 1 × IVec S49999 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 32 := constantI S_ 32 64#32
  let main_v2 : IVec S50000 32 := broadcastInDim S50000 ![] bcast_S_S50000 main_c_0
  let main_v3 : IVec S50000 1 := cmpi .slt main_arg1 main_v2
  let main_v4 : IVec S50000 1 := andi main_v1 main_v3
  let main_v5 : IVec S49999 32 := (extractStridedSlice S49999 ![0] · slices_S50000_S49999_0) main_arg1
  let main_v6 : IVec S49999 32 := (extractStridedSlice S49999 ![1] · slices_S50000_S49999_1) main_arg1
  let main_v7 : IVec S49999 1 := cmpi .sle main_v5 main_v6
  (main_v4, main_v7)
-- ==== Kernel.lean ====
abbrev S50000x512 : Shape := ⟨2, ![50000, 512]⟩
abbrev S50000 : Shape := ⟨1, ![50000]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x8 : Shape := ⟨2, ![256, 8]⟩
abbrev S8 : Shape := ⟨1, ![8]⟩
abbrev S32x64x512 : Shape := ⟨3, ![32, 64, 512]⟩
abbrev S32x64x16 : Shape := ⟨3, ![32, 64, 16]⟩
abbrev S80x512 : Shape := ⟨2, ![80, 512]⟩
abbrev S96 : Shape := ⟨1, ![96]⟩
abbrev S64x512 : Shape := ⟨2, ![64, 512]⟩
abbrev S64x16 : Shape := ⟨2, ![64, 16]⟩
abbrev S16 : Shape := ⟨1, ![16]⟩
abbrev S1x16 : Shape := ⟨2, ![1, 16]⟩
abbrev S_ : Shape := ⟨0, ![]⟩
abbrev S80 : Shape := ⟨1, ![80]⟩
abbrev S1 : Shape := ⟨1, ![1]⟩
abbrev S1x64x512 : Shape := ⟨3, ![1, 64, 512]⟩
abbrev S1x64x16 : Shape := ⟨3, ![1, 64, 16]⟩
abbrev S64x8 : Shape := ⟨2, ![64, 8]⟩
abbrev S64x1 : Shape := ⟨2, ![64, 1]⟩
abbrev S64x1024 : Shape := ⟨2, ![64, 1024]⟩
abbrev S1x512 : Shape := ⟨2, ![1, 512]⟩
abbrev S64x256 : Shape := ⟨2, ![64, 256]⟩
abbrev S1x256 : Shape := ⟨2, ![1, 256]⟩
abbrev S1x8 : Shape := ⟨2, ![1, 8]⟩

abbrev nBuf : Table → Nat
  | .hbm => 16
  | .local .tc .vmem => 14
  | .local .scVector .vmem => 5
  | _ => 0

abbrev bufTy : (tb : Table) → Fin (nBuf tb) → BufTy
  | .hbm, ⟨0, _⟩ => ⟨S50000x512, .f32⟩
  | .hbm, ⟨1, _⟩ => ⟨S50000, .i32⟩
  | .hbm, ⟨2, _⟩ => ⟨S1024x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x8, .f32⟩
  | .hbm, ⟨11, _⟩ => ⟨S8, .f32⟩
  | .hbm, ⟨12, _⟩ => ⟨S32x64x512, .f32⟩
  | .hbm, ⟨13, _⟩ => ⟨S32x64x512, .f32⟩
  | .hbm, ⟨14, _⟩ => ⟨S32x64x16, .f32⟩
  | .hbm, ⟨15, _⟩ => ⟨S64x8, .f32⟩
  | .local .tc .vmem, ⟨0, _⟩ => ⟨S32x64x512, .f32⟩
  | .local .tc .vmem, ⟨1, _⟩ => ⟨S32x64x512, .f32⟩
  | .local .tc .vmem, ⟨2, _⟩ => ⟨S32x64x16, .f32⟩
  | .local .tc .vmem, ⟨3, _⟩ => ⟨S1024x512, .f32⟩
  | .local .tc .vmem, ⟨4, _⟩ => ⟨S512, .f32⟩
  | .local .tc .vmem, ⟨5, _⟩ => ⟨S512, .f32⟩
  | .local .tc .vmem, ⟨6, _⟩ => ⟨S512, .f32⟩
  | .local .tc .vmem, ⟨7, _⟩ => ⟨S512x256, .f32⟩
  | .local .tc .vmem, ⟨8, _⟩ => ⟨S256, .f32⟩
  | .local .tc .vmem, ⟨9, _⟩ => ⟨S256, .f32⟩
  | .local .tc .vmem, ⟨10, _⟩ => ⟨S256, .f32⟩
  | .local .tc .vmem, ⟨11, _⟩ => ⟨S256x8, .f32⟩
  | .local .tc .vmem, ⟨12, _⟩ => ⟨S8, .f32⟩
  | .local .tc .vmem, ⟨13, _⟩ => ⟨S64x8, .f32⟩
  | .local .scVector .vmem, ⟨0, _⟩ => ⟨S80x512, .f32⟩
  | .local .scVector .vmem, ⟨1, _⟩ => ⟨S96, .i32⟩
  | .local .scVector .vmem, ⟨2, _⟩ => ⟨S64x512, .f32⟩
  | .local .scVector .vmem, ⟨3, _⟩ => ⟨S64x512, .f32⟩
  | .local .scVector .vmem, ⟨4, _⟩ => ⟨S64x16, .f32⟩
  | _, _ => ⟨S50000x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v1 : Ref sig .tc := ⟨.hbm, 15, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 12, rfl⟩
abbrev main_v0_1_scv : Ref sig .scVector := ⟨.hbm, 13, rfl⟩
abbrev main_v0_2_scv : Ref sig .scVector := ⟨.hbm, 14, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc1_stg11_0 : Ref sig .tc := ⟨.vmem, 11, rfl⟩
abbrev cc1_stg12_0 : Ref sig .tc := ⟨.vmem, 12, rfl⟩
abbrev cc1_stg13_0 : Ref sig .tc := ⟨.vmem, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c2048_i32 : BitVec 32 := 2048#32
  let v5 : BitVec 32 := Scalar.addi c0_i32_2 c2048_i32
  let c1_i32 : BitVec 32 := 1#32
  ⟨c0_i32_2, v5, c1_i32⟩
def k0_off1 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let c0_i32_15 : BitVec 32 := 0#32
  let v18 : BitVec 1 := Scalar.cmpi .sgt arg12 c0_i32_15
  let v19 : BitVec 32 := Scalar.extui v18
  let c0_i32_16 : BitVec 32 := 0#32
  let v20 : BitVec 1 := Scalar.cmpi .slt arg12 c0_i32_16
  let v21 : BitVec 32 := Scalar.extui v20
  let v22 : BitVec 32 := Scalar.subi v19 v21
  let c32_i32 : BitVec 32 := 32#32
  let c0_i32_17 : BitVec 32 := 0#32
  let v23 : BitVec 1 := Scalar.cmpi .sgt c32_i32 c0_i32_17
  let v24 : BitVec 32 := Scalar.extui v23
  let c0_i32_18 : BitVec 32 := 0#32
  let v25 : BitVec 1 := Scalar.cmpi .slt c32_i32 c0_i32_18
  let v26 : BitVec 32 := Scalar.extui v25
  let v27 : BitVec 32 := Scalar.subi v24 v26
  let v28 : BitVec 1 := Scalar.cmpi .ne v22 v27
  let v29 : BitVec 32 := Scalar.remsi arg12 c32_i32
  let c0_i32_19 : BitVec 32 := 0#32
  let v30 : BitVec 1 := Scalar.cmpi .ne v29 c0_i32_19
  let v31 : BitVec 1 := Scalar.andi v28 v30
  let v17 : BitVec 32 := Scalar.divsi arg12 c32_i32
  let c1_i32_20 : BitVec 32 := 1#32
  let v32 : BitVec 32 := Scalar.subi v17 c1_i32_20
  let v33 : BitVec 32 := Scalar.select v31 v32 v17
  let v45 : Index := Scalar.indexCast v33
  let c32_i32_21 : BitVec 32 := 32#32
  let c0_i32_22 : BitVec 32 := 0#32
  let v34 : BitVec 1 := Scalar.cmpi .eq c32_i32_21 c0_i32_22
  let c1_i32_23 : BitVec 32 := 1#32
  let v35 : BitVec 32 := Scalar.select v34 c1_i32_23 c32_i32_21
  let v36 : BitVec 32 := Scalar.remsi arg12 v35
  let c0_i32_25 : BitVec 32 := 0#32
  let v38 : BitVec 1 := Scalar.cmpi .slt v36 c0_i32_25
  let c0_i32_26 : BitVec 32 := 0#32
  let v39 : BitVec 1 := Scalar.cmpi .slt v35 c0_i32_26
  let v40 : BitVec 1 := Scalar.xori v38 v39
  let c0_i32_24 : BitVec 32 := 0#32
  let v37 : BitVec 1 := Scalar.cmpi .ne v36 c0_i32_24
  let v41 : BitVec 1 := Scalar.andi v40 v37
  let v42 : BitVec 32 := Scalar.addi v36 v35
  let v43 : BitVec 32 := Scalar.select v41 v42 v36
  let c16_i32 : BitVec 32 := 16#32
  let v44 : BitVec 32 := Scalar.muli v43 c16_i32
  let v46 : Index := Scalar.indexCast v44
  ![v45.toNat, v46.toNat]
@[reducible] def k0_t2_loop : Scf.Loop 32 :=
  let c0_i32_5 : BitVec 32 := 0#32
  let c64_i32 : BitVec 32 := 64#32
  let v6 : BitVec 32 := Scalar.addi c0_i32_5 c64_i32
  let c1_i32_6 : BitVec 32 := 1#32
  ⟨c0_i32_5, v6, c1_i32_6⟩
def k0_off2 (k0_t2 : Fin k0_t2_loop.trips) : Fin 2 → Nat :=
  let c0_i32_5 : BitVec 32 := 0#32
  let c1_i32_6 : BitVec 32 := 1#32
  let arg12 : BitVec 32 := Scf.iv c0_i32_5 c1_i32_6 k0_t2
  let v17 : Index := Scalar.indexCast arg12
  let c0 : Index := 0#32
  ![v17.toNat, 0]
@[reducible] def k0_t3_loop (i : grid0.Coords) : Scf.Loop 32 :=
  let c0_i32_11 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c17_i32 : BitVec 32 := 17#32
  let v7 : BitVec 1 := Scalar.cmpi .slt v1 c17_i32
  let c20_i32 : BitVec 32 := 20#32
  let c19_i32 : BitVec 32 := 19#32
  let v8 : BitVec 32 := Scalar.select v7 c20_i32 c19_i32
  let v12 : BitVec 32 := Scalar.subi v8 c0_i32_11
  let c1_i32_12 : BitVec 32 := 1#32
  let v14 : BitVec 32 := Scalar.divsi v12 c1_i32_12
  let v15 : BitVec 32 := Scalar.muli v14 c1_i32_12
  let v16 : BitVec 32 := Scalar.addi c0_i32_11 v15
  let c1_i32_13 : BitVec 32 := 1#32
  ⟨c0_i32_11, v16, c1_i32_13⟩
def k0_off3 (i : grid0.Coords) (k0_t3 : Fin (k0_t3_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32_8 : BitVec 32 := 19#32
  let v9 : BitVec 32 := Scalar.muli v1 c19_i32_8
  let c17_i32_9 : BitVec 32 := 17#32
  let v10 : BitVec 32 := Scalar.minsi v1 c17_i32_9
  let v11 : BitVec 32 := Scalar.addi v9 v10
  let c0_i32_11 : BitVec 32 := 0#32
  let c1_i32_13 : BitVec 32 := 1#32
  let arg12 : BitVec 32 := Scf.iv c0_i32_11 c1_i32_13 k0_t3
  let v17 : BitVec 32 := Scalar.addi v11 arg12
  let c80_i32 : BitVec 32 := 80#32
  let v18 : BitVec 32 := Scalar.muli v17 c80_i32
  let c0_i32_20_r0 : BitVec 32 := 0#32
  ![v18.toNat, 0]
def k0_off4 (i : grid0.Coords) (k0_t3 : Fin (k0_t3_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32_8 : BitVec 32 := 19#32
  let v9 : BitVec 32 := Scalar.muli v1 c19_i32_8
  let c17_i32_9 : BitVec 32 := 17#32
  let v10 : BitVec 32 := Scalar.minsi v1 c17_i32_9
  let v11 : BitVec 32 := Scalar.addi v9 v10
  let c0_i32_11 : BitVec 32 := 0#32
  let c1_i32_13 : BitVec 32 := 1#32
  let arg12 : BitVec 32 := Scf.iv c0_i32_11 c1_i32_13 k0_t3
  let v17 : BitVec 32 := Scalar.addi v11 arg12
  let c80_i32_15 : BitVec 32 := 80#32
  let v19 : BitVec 32 := Scalar.muli v17 c80_i32_15
  ![v19.toNat]
@[reducible] def k0_t4_loop : Scf.Loop 32 :=
  let c0_i32_17 : BitVec 32 := 0#32
  let c5_i32 : BitVec 32 := 5#32
  let v20 : BitVec 32 := Scalar.addi c0_i32_17 c5_i32
  let c1_i32_18 : BitVec 32 := 1#32
  ⟨c0_i32_17, v20, c1_i32_18⟩
def k0_off5 (k0_t4 : Fin k0_t4_loop.trips) : Fin 1 → Nat :=
  let c0_i32_17 : BitVec 32 := 0#32
  let c1_i32_18 : BitVec 32 := 1#32
  let arg13 : BitVec 32 := Scf.iv c0_i32_17 c1_i32_18 k0_t4
  let c16_i32 : BitVec 32 := 16#32
  let v21 : BitVec 32 := Scalar.muli arg13 c16_i32
  let v22 : Index := Scalar.indexCast v21
  ![v22.toNat]
def k0_off6 (v26 : BitVec 32) : Fin 2 → Nat :=
  let v36 : Index := Scalar.indexCast v26
  let c0 : Index := 0#32
  ![v36.toNat, 0]
def k0_cond1 (v26 : BitVec 32) (v28 : BitVec 32) : BitVec 1 :=
  let v30 : BitVec 1 := Scalar.cmpi .eq v26 v28
  let v31 : BitVec 32 := Scalar.extui v30
  let c0_i32_21 : BitVec 32 := 0#32
  let v32 : BitVec 1 := Scalar.cmpi .ne v31 c0_i32_21
  v32

@[reducible] def k0_t5_loop : Scf.Loop 32 :=
  let c0_i32_26 : BitVec 32 := 0#32
  let c32_i32 : BitVec 32 := 32#32
  let v45 : BitVec 32 := Scalar.addi c0_i32_26 c32_i32
  let c1_i32_27 : BitVec 32 := 1#32
  ⟨c0_i32_26, v45, c1_i32_27⟩
def k0_off7 (k0_t4 : Fin k0_t4_loop.trips) (k0_t5 : Fin k0_t5_loop.trips) (c0_i32_30 : BitVec 32) : Fin 2 → Nat :=
  let c0_i32_17 : BitVec 32 := 0#32
  let c1_i32_18 : BitVec 32 := 1#32
  let arg13 : BitVec 32 := Scf.iv c0_i32_17 c1_i32_18 k0_t4
  let c16_i32_20 : BitVec 32 := 16#32
  let v29 : BitVec 32 := Scalar.muli arg13 c16_i32_20
  let v47 : BitVec 32 := Scalar.addi v29 c0_i32_30
  let v48 : Index := Scalar.indexCast v47
  let c0_i32_26 : BitVec 32 := 0#32
  let c1_i32_27 : BitVec 32 := 1#32
  let arg14 : BitVec 32 := Scf.iv c0_i32_26 c1_i32_27 k0_t5
  let c16_i32_29 : BitVec 32 := 16#32
  let v46 : BitVec 32 := Scalar.muli arg14 c16_i32_29
  let v49 : Index := Scalar.indexCast v46
  ![v48.toNat, v49.toNat]
def k0_off8 (v26 : BitVec 32) (k0_t5 : Fin k0_t5_loop.trips) : Fin 2 → Nat :=
  let v127 : Index := Scalar.indexCast v26
  let c0_i32_26 : BitVec 32 := 0#32
  let c1_i32_27 : BitVec 32 := 1#32
  let arg14 : BitVec 32 := Scf.iv c0_i32_26 c1_i32_27 k0_t5
  let c16_i32_29 : BitVec 32 := 16#32
  let v46 : BitVec 32 := Scalar.muli arg14 c16_i32_29
  let v128 : Index := Scalar.indexCast v46
  ![v127.toNat, v128.toNat]

def k0_chk1 (v26 : BitVec 32) (v28 : BitVec 32) : Prop :=
  (∀ (k0_h1 : k0_cond1 v26 v28 = 1#1), ∀ a, (k0_off6 v26) a + S1x16.size a ≤ S64x16.size a) ∧
  (∀ k0_t5 : Fin k0_t5_loop.trips, ∀ (k0_h1 : k0_cond1 v26 v28 = 1#1), ∀ a, (k0_off8 v26 k0_t5) a + S1x16.size a ≤ S64x512.size a)
theorem k0_off6_inb : ∀ (v26 : BitVec 32) (v28 : BitVec 32) (k0_hw1 : k0_chk1 v26 v28), ∀ (k0_h1 : k0_cond1 v26 v28 = 1#1), ∀ a, (k0_off6 v26) a + S1x16.size a ≤ S64x16.size a := fun v26 v28 k0_hw1 k0_h1 => k0_hw1.1 k0_h1
theorem k0_off8_inb : ∀ (v26 : BitVec 32) (v28 : BitVec 32) (k0_hw1 : k0_chk1 v26 v28) (k0_t5 : Fin k0_t5_loop.trips), ∀ (k0_h1 : k0_cond1 v26 v28 = 1#1), ∀ a, (k0_off8 v26 k0_t5) a + S1x16.size a ≤ S64x512.size a := fun v26 v28 k0_hw1 k0_t5 k0_h1 => k0_hw1.2 k0_t5 k0_h1

@[reducible] def k0_t6_loop : Scf.Loop 32 :=
  let c0_i32_24 : BitVec 32 := 0#32
  let c16_i32_25 : BitVec 32 := 16#32
  let v36 : BitVec 32 := Scalar.addi c0_i32_24 c16_i32_25
  let c1_i32_26 : BitVec 32 := 1#32
  ⟨c0_i32_24, v36, c1_i32_26⟩
def k0_off9 (k0_t4 : Fin k0_t4_loop.trips) (k0_t6 : Fin k0_t6_loop.trips) : Fin 1 → Nat :=
  let c0_i32_17 : BitVec 32 := 0#32
  let c1_i32_18 : BitVec 32 := 1#32
  let arg13 : BitVec 32 := Scf.iv c0_i32_17 c1_i32_18 k0_t4
  let c16_i32_20 : BitVec 32 := 16#32
  let v29 : BitVec 32 := Scalar.muli arg13 c16_i32_20
  let c0_i32_24 : BitVec 32 := 0#32
  let c1_i32_26 : BitVec 32 := 1#32
  let arg14 : BitVec 32 := Scf.iv c0_i32_24 c1_i32_26 k0_t6
  let v37 : BitVec 32 := Scalar.addi v29 arg14
  let v38 : Index := Scalar.indexCast v37
  ![v38.toNat]
def k0_off10 (v42 : BitVec 32) : Fin 2 → Nat :=
  let v43 : Index := Scalar.indexCast v42
  let c0 : Index := 0#32
  ![v43.toNat, 0]
def k0_cond2 (v26 : BitVec 32) (v28 : BitVec 32) : BitVec 1 :=
  let v33 : BitVec 1 := Scalar.cmpi .ne v26 v28
  let v34 : BitVec 32 := Scalar.extui v33
  let c0_i32_22 : BitVec 32 := 0#32
  let v35 : BitVec 1 := Scalar.cmpi .ne v34 c0_i32_22
  v35

@[reducible] def k0_t7_loop : Scf.Loop 32 :=
  let c0_i32_30 : BitVec 32 := 0#32
  let c32_i32 : BitVec 32 := 32#32
  let v51 : BitVec 32 := Scalar.addi c0_i32_30 c32_i32
  let c1_i32_31 : BitVec 32 := 1#32
  ⟨c0_i32_30, v51, c1_i32_31⟩
def k0_off11 (k0_t4 : Fin k0_t4_loop.trips) (k0_t6 : Fin k0_t6_loop.trips) (k0_t7 : Fin k0_t7_loop.trips) : Fin 2 → Nat :=
  let c0_i32_17 : BitVec 32 := 0#32
  let c1_i32_18 : BitVec 32 := 1#32
  let arg13 : BitVec 32 := Scf.iv c0_i32_17 c1_i32_18 k0_t4
  let c16_i32_20 : BitVec 32 := 16#32
  let v29 : BitVec 32 := Scalar.muli arg13 c16_i32_20
  let c0_i32_24 : BitVec 32 := 0#32
  let c1_i32_26 : BitVec 32 := 1#32
  let arg14 : BitVec 32 := Scf.iv c0_i32_24 c1_i32_26 k0_t6
  let v37 : BitVec 32 := Scalar.addi v29 arg14
  let v53 : Index := Scalar.indexCast v37
  let c0_i32_30 : BitVec 32 := 0#32
  let c1_i32_31 : BitVec 32 := 1#32
  let arg15 : BitVec 32 := Scf.iv c0_i32_30 c1_i32_31 k0_t7
  let c16_i32_33 : BitVec 32 := 16#32
  let v52 : BitVec 32 := Scalar.muli arg15 c16_i32_33
  let v54 : Index := Scalar.indexCast v52
  ![v53.toNat, v54.toNat]
def k0_off12 (v42 : BitVec 32) (k0_t7 : Fin k0_t7_loop.trips) : Fin 2 → Nat :=
  let v57 : Index := Scalar.indexCast v42
  let c0_i32_30 : BitVec 32 := 0#32
  let c1_i32_31 : BitVec 32 := 1#32
  let arg15 : BitVec 32 := Scf.iv c0_i32_30 c1_i32_31 k0_t7
  let c16_i32_33 : BitVec 32 := 16#32
  let v52 : BitVec 32 := Scalar.muli arg15 c16_i32_33
  let v58 : Index := Scalar.indexCast v52
  ![v57.toNat, v58.toNat]

def k0_chk2 (v26 : BitVec 32) (v28 : BitVec 32) (v42 : BitVec 32) : Prop :=
  (∀ (k0_h2 : k0_cond2 v26 v28 = 1#1), ∀ a, (k0_off10 v42) a + S1x16.size a ≤ S64x16.size a) ∧
  (∀ k0_t7 : Fin k0_t7_loop.trips, ∀ (k0_h2 : k0_cond2 v26 v28 = 1#1), ∀ a, (k0_off12 v42 k0_t7) a + S1x16.size a ≤ S64x512.size a)
theorem k0_off10_inb : ∀ (v26 : BitVec 32) (v28 : BitVec 32) (v42 : BitVec 32) (k0_hw2 : k0_chk2 v26 v28 v42), ∀ (k0_h2 : k0_cond2 v26 v28 = 1#1), ∀ a, (k0_off10 v42) a + S1x16.size a ≤ S64x16.size a := fun v26 v28 v42 k0_hw2 k0_h2 => k0_hw2.1 k0_h2
theorem k0_off12_inb : ∀ (v26 : BitVec 32) (v28 : BitVec 32) (v42 : BitVec 32) (k0_hw2 : k0_chk2 v26 v28 v42) (k0_t7 : Fin k0_t7_loop.trips), ∀ (k0_h2 : k0_cond2 v26 v28 = 1#1), ∀ a, (k0_off12 v42 k0_t7) a + S1x16.size a ≤ S64x512.size a := fun v26 v28 v42 k0_hw2 k0_t7 k0_h2 => k0_hw2.2 k0_t7 k0_h2

@[reducible] def k0_t8_loop (i : grid0.Coords) : Scf.Loop 32 :=
  let c0_i32_11 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c17_i32 : BitVec 32 := 17#32
  let v7 : BitVec 1 := Scalar.cmpi .slt v1 c17_i32
  let c20_i32 : BitVec 32 := 20#32
  let c19_i32 : BitVec 32 := 19#32
  let v8 : BitVec 32 := Scalar.select v7 c20_i32 c19_i32
  let v12 : BitVec 32 := Scalar.subi v8 c0_i32_11
  let c1_i32_12 : BitVec 32 := 1#32
  let v14 : BitVec 32 := Scalar.divsi v12 c1_i32_12
  let v15 : BitVec 32 := Scalar.muli v14 c1_i32_12
  let v16 : BitVec 32 := Scalar.addi c0_i32_11 v15
  let v13 : BitVec 32 := Scalar.addi c0_i32_11 v12
  let c1_i32_14 : BitVec 32 := 1#32
  ⟨v16, v13, c1_i32_14⟩
def k0_off13 (i : grid0.Coords) (k0_t8 : Fin (k0_t8_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32_8 : BitVec 32 := 19#32
  let v9 : BitVec 32 := Scalar.muli v1 c19_i32_8
  let c17_i32_9 : BitVec 32 := 17#32
  let v10 : BitVec 32 := Scalar.minsi v1 c17_i32_9
  let v11 : BitVec 32 := Scalar.addi v9 v10
  let c0_i32_11 : BitVec 32 := 0#32
  let c17_i32 : BitVec 32 := 17#32
  let v7 : BitVec 1 := Scalar.cmpi .slt v1 c17_i32
  let c20_i32 : BitVec 32 := 20#32
  let c19_i32 : BitVec 32 := 19#32
  let v8 : BitVec 32 := Scalar.select v7 c20_i32 c19_i32
  let v12 : BitVec 32 := Scalar.subi v8 c0_i32_11
  let c1_i32_12 : BitVec 32 := 1#32
  let v14 : BitVec 32 := Scalar.divsi v12 c1_i32_12
  let v15 : BitVec 32 := Scalar.muli v14 c1_i32_12
  let v16 : BitVec 32 := Scalar.addi c0_i32_11 v15
  let c1_i32_14 : BitVec 32 := 1#32
  let arg12 : BitVec 32 := Scf.iv v16 c1_i32_14 k0_t8
  let v17 : BitVec 32 := Scalar.addi v11 arg12
  let c80_i32 : BitVec 32 := 80#32
  let v18 : BitVec 32 := Scalar.muli v17 c80_i32
  let c0_i32_20_r2 : BitVec 32 := 0#32
  ![v18.toNat, 0]
def k0_off14 (i : grid0.Coords) (k0_t8 : Fin (k0_t8_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32_8 : BitVec 32 := 19#32
  let v9 : BitVec 32 := Scalar.muli v1 c19_i32_8
  let c17_i32_9 : BitVec 32 := 17#32
  let v10 : BitVec 32 := Scalar.minsi v1 c17_i32_9
  let v11 : BitVec 32 := Scalar.addi v9 v10
  let c0_i32_11 : BitVec 32 := 0#32
  let c17_i32 : BitVec 32 := 17#32
  let v7 : BitVec 1 := Scalar.cmpi .slt v1 c17_i32
  let c20_i32 : BitVec 32 := 20#32
  let c19_i32 : BitVec 32 := 19#32
  let v8 : BitVec 32 := Scalar.select v7 c20_i32 c19_i32
  let v12 : BitVec 32 := Scalar.subi v8 c0_i32_11
  let c1_i32_12 : BitVec 32 := 1#32
  let v14 : BitVec 32 := Scalar.divsi v12 c1_i32_12
  let v15 : BitVec 32 := Scalar.muli v14 c1_i32_12
  let v16 : BitVec 32 := Scalar.addi c0_i32_11 v15
  let c1_i32_14 : BitVec 32 := 1#32
  let arg12 : BitVec 32 := Scf.iv v16 c1_i32_14 k0_t8
  let v17 : BitVec 32 := Scalar.addi v11 arg12
  let c80_i32_15 : BitVec 32 := 80#32
  let v19 : BitVec 32 := Scalar.muli v17 c80_i32_15
  ![v19.toNat]
@[reducible] def k0_t9_loop : Scf.Loop 32 :=
  let c0_i32_17 : BitVec 32 := 0#32
  let c5_i32 : BitVec 32 := 5#32
  let v20 : BitVec 32 := Scalar.addi c0_i32_17 c5_i32
  let c1_i32_18 : BitVec 32 := 1#32
  ⟨c0_i32_17, v20, c1_i32_18⟩
def k0_off15 (k0_t9 : Fin k0_t9_loop.trips) : Fin 1 → Nat :=
  let c0_i32_17 : BitVec 32 := 0#32
  let c1_i32_18 : BitVec 32 := 1#32
  let arg13 : BitVec 32 := Scf.iv c0_i32_17 c1_i32_18 k0_t9
  let c16_i32 : BitVec 32 := 16#32
  let v21 : BitVec 32 := Scalar.muli arg13 c16_i32
  let v22 : Index := Scalar.indexCast v21
  ![v22.toNat]
def k0_off16 (v26 : BitVec 32) : Fin 2 → Nat :=
  let v36 : Index := Scalar.indexCast v26
  let c0 : Index := 0#32
  ![v36.toNat, 0]
def k0_cond3 (v26 : BitVec 32) (v28 : BitVec 32) : BitVec 1 :=
  let v30 : BitVec 1 := Scalar.cmpi .eq v26 v28
  let v31 : BitVec 32 := Scalar.extui v30
  let c0_i32_21 : BitVec 32 := 0#32
  let v32 : BitVec 1 := Scalar.cmpi .ne v31 c0_i32_21
  v32

@[reducible] def k0_t10_loop : Scf.Loop 32 :=
  let c0_i32_26 : BitVec 32 := 0#32
  let c32_i32 : BitVec 32 := 32#32
  let v45 : BitVec 32 := Scalar.addi c0_i32_26 c32_i32
  let c1_i32_27 : BitVec 32 := 1#32
  ⟨c0_i32_26, v45, c1_i32_27⟩
def k0_off17 (k0_t9 : Fin k0_t9_loop.trips) (k0_t10 : Fin k0_t10_loop.trips) (c0_i32_30 : BitVec 32) : Fin 2 → Nat :=
  let c0_i32_17 : BitVec 32 := 0#32
  let c1_i32_18 : BitVec 32 := 1#32
  let arg13 : BitVec 32 := Scf.iv c0_i32_17 c1_i32_18 k0_t9
  let c16_i32_20 : BitVec 32 := 16#32
  let v29 : BitVec 32 := Scalar.muli arg13 c16_i32_20
  let v47 : BitVec 32 := Scalar.addi v29 c0_i32_30
  let v48 : Index := Scalar.indexCast v47
  let c0_i32_26 : BitVec 32 := 0#32
  let c1_i32_27 : BitVec 32 := 1#32
  let arg14 : BitVec 32 := Scf.iv c0_i32_26 c1_i32_27 k0_t10
  let c16_i32_29 : BitVec 32 := 16#32
  let v46 : BitVec 32 := Scalar.muli arg14 c16_i32_29
  let v49 : Index := Scalar.indexCast v46
  ![v48.toNat, v49.toNat]
def k0_off18 (v26 : BitVec 32) (k0_t10 : Fin k0_t10_loop.trips) : Fin 2 → Nat :=
  let v127 : Index := Scalar.indexCast v26
  let c0_i32_26 : BitVec 32 := 0#32
  let c1_i32_27 : BitVec 32 := 1#32
  let arg14 : BitVec 32 := Scf.iv c0_i32_26 c1_i32_27 k0_t10
  let c16_i32_29 : BitVec 32 := 16#32
  let v46 : BitVec 32 := Scalar.muli arg14 c16_i32_29
  let v128 : Index := Scalar.indexCast v46
  ![v127.toNat, v128.toNat]

def k0_chk3 (i : grid0.Coords) (k0_t8 : Fin (k0_t8_loop i).trips) (v26 : BitVec 32) (v28 : BitVec 32) : Prop :=
  (∀ (k0_h3 : k0_cond3 v26 v28 = 1#1), ∀ a, (k0_off16 v26) a + S1x16.size a ≤ S64x16.size a) ∧
  (∀ k0_t10 : Fin k0_t10_loop.trips, ∀ (k0_h3 : k0_cond3 v26 v28 = 1#1), ∀ a, (k0_off18 v26 k0_t10) a + S1x16.size a ≤ S64x512.size a)
theorem k0_off16_inb : ∀ (i : grid0.Coords) (k0_t8 : Fin (k0_t8_loop i).trips) (v26 : BitVec 32) (v28 : BitVec 32) (k0_hw3 : k0_chk3 i k0_t8 v26 v28), ∀ (k0_h3 : k0_cond3 v26 v28 = 1#1), ∀ a, (k0_off16 v26) a + S1x16.size a ≤ S64x16.size a := fun i k0_t8 v26 v28 k0_hw3 k0_h3 => k0_hw3.1 k0_h3
theorem k0_off18_inb : ∀ (i : grid0.Coords) (k0_t8 : Fin (k0_t8_loop i).trips) (v26 : BitVec 32) (v28 : BitVec 32) (k0_hw3 : k0_chk3 i k0_t8 v26 v28) (k0_t10 : Fin k0_t10_loop.trips), ∀ (k0_h3 : k0_cond3 v26 v28 = 1#1), ∀ a, (k0_off18 v26 k0_t10) a + S1x16.size a ≤ S64x512.size a := fun i k0_t8 v26 v28 k0_hw3 k0_t10 k0_h3 => k0_hw3.2 k0_t10 k0_h3

@[reducible] def k0_t11_loop : Scf.Loop 32 :=
  let c0_i32_24 : BitVec 32 := 0#32
  let c16_i32_25 : BitVec 32 := 16#32
  let v36 : BitVec 32 := Scalar.addi c0_i32_24 c16_i32_25
  let c1_i32_26 : BitVec 32 := 1#32
  ⟨c0_i32_24, v36, c1_i32_26⟩
def k0_off19 (k0_t9 : Fin k0_t9_loop.trips) (k0_t11 : Fin k0_t11_loop.trips) : Fin 1 → Nat :=
  let c0_i32_17 : BitVec 32 := 0#32
  let c1_i32_18 : BitVec 32 := 1#32
  let arg13 : BitVec 32 := Scf.iv c0_i32_17 c1_i32_18 k0_t9
  let c16_i32_20 : BitVec 32 := 16#32
  let v29 : BitVec 32 := Scalar.muli arg13 c16_i32_20
  let c0_i32_24 : BitVec 32 := 0#32
  let c1_i32_26 : BitVec 32 := 1#32
  let arg14 : BitVec 32 := Scf.iv c0_i32_24 c1_i32_26 k0_t11
  let v37 : BitVec 32 := Scalar.addi v29 arg14
  let v38 : Index := Scalar.indexCast v37
  ![v38.toNat]
def k0_off20 (v42 : BitVec 32) : Fin 2 → Nat :=
  let v43 : Index := Scalar.indexCast v42
  let c0 : Index := 0#32
  ![v43.toNat, 0]
def k0_cond4 (v26 : BitVec 32) (v28 : BitVec 32) : BitVec 1 :=
  let v33 : BitVec 1 := Scalar.cmpi .ne v26 v28
  let v34 : BitVec 32 := Scalar.extui v33
  let c0_i32_22 : BitVec 32 := 0#32
  let v35 : BitVec 1 := Scalar.cmpi .ne v34 c0_i32_22
  v35

@[reducible] def k0_t12_loop : Scf.Loop 32 :=
  let c0_i32_30 : BitVec 32 := 0#32
  let c32_i32 : BitVec 32 := 32#32
  let v51 : BitVec 32 := Scalar.addi c0_i32_30 c32_i32
  let c1_i32_31 : BitVec 32 := 1#32
  ⟨c0_i32_30, v51, c1_i32_31⟩
def k0_off21 (k0_t9 : Fin k0_t9_loop.trips) (k0_t11 : Fin k0_t11_loop.trips) (k0_t12 : Fin k0_t12_loop.trips) : Fin 2 → Nat :=
  let c0_i32_17 : BitVec 32 := 0#32
  let c1_i32_18 : BitVec 32 := 1#32
  let arg13 : BitVec 32 := Scf.iv c0_i32_17 c1_i32_18 k0_t9
  let c16_i32_20 : BitVec 32 := 16#32
  let v29 : BitVec 32 := Scalar.muli arg13 c16_i32_20
  let c0_i32_24 : BitVec 32 := 0#32
  let c1_i32_26 : BitVec 32 := 1#32
  let arg14 : BitVec 32 := Scf.iv c0_i32_24 c1_i32_26 k0_t11
  let v37 : BitVec 32 := Scalar.addi v29 arg14
  let v53 : Index := Scalar.indexCast v37
  let c0_i32_30 : BitVec 32 := 0#32
  let c1_i32_31 : BitVec 32 := 1#32
  let arg15 : BitVec 32 := Scf.iv c0_i32_30 c1_i32_31 k0_t12
  let c16_i32_33 : BitVec 32 := 16#32
  let v52 : BitVec 32 := Scalar.muli arg15 c16_i32_33
  let v54 : Index := Scalar.indexCast v52
  ![v53.toNat, v54.toNat]
def k0_off22 (v42 : BitVec 32) (k0_t12 : Fin k0_t12_loop.trips) : Fin 2 → Nat :=
  let v57 : Index := Scalar.indexCast v42
  let c0_i32_30 : BitVec 32 := 0#32
  let c1_i32_31 : BitVec 32 := 1#32
  let arg15 : BitVec 32 := Scf.iv c0_i32_30 c1_i32_31 k0_t12
  let c16_i32_33 : BitVec 32 := 16#32
  let v52 : BitVec 32 := Scalar.muli arg15 c16_i32_33
  let v58 : Index := Scalar.indexCast v52
  ![v57.toNat, v58.toNat]

def k0_chk4 (i : grid0.Coords) (k0_t8 : Fin (k0_t8_loop i).trips) (v26 : BitVec 32) (v28 : BitVec 32) (v42 : BitVec 32) : Prop :=
  (∀ (k0_h4 : k0_cond4 v26 v28 = 1#1), ∀ a, (k0_off20 v42) a + S1x16.size a ≤ S64x16.size a) ∧
  (∀ k0_t12 : Fin k0_t12_loop.trips, ∀ (k0_h4 : k0_cond4 v26 v28 = 1#1), ∀ a, (k0_off22 v42 k0_t12) a + S1x16.size a ≤ S64x512.size a)
theorem k0_off20_inb : ∀ (i : grid0.Coords) (k0_t8 : Fin (k0_t8_loop i).trips) (v26 : BitVec 32) (v28 : BitVec 32) (v42 : BitVec 32) (k0_hw4 : k0_chk4 i k0_t8 v26 v28 v42), ∀ (k0_h4 : k0_cond4 v26 v28 = 1#1), ∀ a, (k0_off20 v42) a + S1x16.size a ≤ S64x16.size a := fun i k0_t8 v26 v28 v42 k0_hw4 k0_h4 => k0_hw4.1 k0_h4
theorem k0_off22_inb : ∀ (i : grid0.Coords) (k0_t8 : Fin (k0_t8_loop i).trips) (v26 : BitVec 32) (v28 : BitVec 32) (v42 : BitVec 32) (k0_hw4 : k0_chk4 i k0_t8 v26 v28 v42) (k0_t12 : Fin k0_t12_loop.trips), ∀ (k0_h4 : k0_cond4 v26 v28 = 1#1), ∀ a, (k0_off22 v42 k0_t12) a + S1x16.size a ≤ S64x512.size a := fun i k0_t8 v26 v28 v42 k0_hw4 k0_t12 k0_h4 => k0_hw4.2 k0_t12 k0_h4

def k0_off23 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_15_r4 : BitVec 32 := 0#32
  let c0_i32_16_r4 : BitVec 32 := 0#32
  ![v1.toNat, 0, 0]
def k0_off24 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_15_r6 : BitVec 32 := 0#32
  let c0_i32_16_r6 : BitVec 32 := 0#32
  ![v1.toNat, 0, 0]
abbrev grid1 : Pipeline.Grid := .none

abbrev stage1_0 : Fin 1 → Memref sig .tc .vmem S32x64x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x64x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S32x64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S512x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S256x8 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S8 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S64x8 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000x512 : Shape := ⟨2, ![50000, 512]⟩
abbrev S50000 : Shape := ⟨1, ![50000]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x8 : Shape := ⟨2, ![256, 8]⟩
abbrev S8 : Shape := ⟨1, ![8]⟩
abbrev S1x50000 : Shape := ⟨2, ![1, 50000]⟩
abbrev S64 : Shape := ⟨1, ![64]⟩
abbrev S64x1 : Shape := ⟨2, ![64, 1]⟩
abbrev S64x50000 : Shape := ⟨2, ![64, 50000]⟩
abbrev S64x50000x1 : Shape := ⟨3, ![64, 50000, 1]⟩
abbrev S1x50000x512 : Shape := ⟨3, ![1, 50000, 512]⟩
abbrev S_ : Shape := ⟨0, ![]⟩
abbrev S64x50000x512 : Shape := ⟨3, ![64, 50000, 512]⟩
abbrev S64x512 : Shape := ⟨2, ![64, 512]⟩
abbrev S50000x1 : Shape := ⟨2, ![50000, 1]⟩
abbrev S64x1024 : Shape := ⟨2, ![64, 1024]⟩
abbrev S1x512 : Shape := ⟨2, ![1, 512]⟩
abbrev S64x256 : Shape := ⟨2, ![64, 256]⟩
abbrev S1x256 : Shape := ⟨2, ![1, 256]⟩
abbrev S64x8 : Shape := ⟨2, ![64, 8]⟩
abbrev S1x8 : Shape := ⟨2, ![1, 8]⟩

abbrev nBuf : Space → Nat
  | .hbm => 161
  | .vmem => 0
  | .smem => 0
  | _ => 0

abbrev hbmTy0_0 (i : Nat) : BufTy := match i % 128 with
  | 0 => ⟨S50000x512, .f32⟩
  | 1 => ⟨S50000, .i32⟩
  | 2 => ⟨S1024x512, .f32⟩
  | 3 => ⟨S512, .f32⟩
  | 4 => ⟨S512, .f32⟩
  | 5 => ⟨S512, .f32⟩
  | 6 => ⟨S512x256, .f32⟩
  | 7 => ⟨S256, .f32⟩
  | 8 => ⟨S256, .f32⟩
  | 9 => ⟨S256, .f32⟩
  | 10 => ⟨S256x8, .f32⟩
  | 11 => ⟨S8, .f32⟩
  | 12 => ⟨S1x50000, .i32⟩
  | 13 => ⟨S64, .i32⟩
  | 14 => ⟨S64x1, .i32⟩
  | 15 => ⟨S64x50000, .i32⟩
  | 16 => ⟨S64x50000, .i32⟩
  | 17 => ⟨S64x50000, .i1⟩
  | 18 => ⟨S64x50000x1, .i1⟩
  | 19 => ⟨S1x50000x512, .f32⟩
  | 20 => ⟨S_, .f32⟩
  | 21 => ⟨S_, .f32⟩
  | 22 => ⟨S64x50000x512, .i1⟩
  | 23 => ⟨S64x50000x512, .f32⟩
  | 24 => ⟨S64x50000x512, .f32⟩
  | 25 => ⟨S64x50000x512, .f32⟩
  | 26 => ⟨S_, .f32⟩
  | 27 => ⟨S64x512, .f32⟩
  | 28 => ⟨S_, .f32⟩
  | 29 => ⟨S64x512, .f32⟩
  | 30 => ⟨S50000x1, .i32⟩
  | 31 => ⟨S64x512, .f32⟩
  | 32 => ⟨S_, .f32⟩
  | 33 => ⟨S50000, .f32⟩
  | 34 => ⟨S_, .f32⟩
  | 35 => ⟨S64, .f32⟩
  | 36 => ⟨S50000x1, .i32⟩
  | 37 => ⟨S64, .f32⟩
  | 38 => ⟨S_, .f32⟩
  | 39 => ⟨S64, .f32⟩
  | 40 => ⟨S64, .f32⟩
  | 41 => ⟨S64x1, .f32⟩
  | 42 => ⟨S64x512, .f32⟩
  | 43 => ⟨S64x512, .f32⟩
  | 44 => ⟨S64x1024, .f32⟩
  | 45 => ⟨S64x512, .f32⟩
  | 46 => ⟨S1x512, .f32⟩
  | 47 => ⟨S64x512, .f32⟩
  | 48 => ⟨S64x512, .f32⟩
  | 49 => ⟨S_, .f32⟩
  | 50 => ⟨S512, .f32⟩
  | 51 => ⟨S_, .f32⟩
  | 52 => ⟨S512, .f32⟩
  | 53 => ⟨S512, .f32⟩
  | 54 => ⟨S_, .i32⟩
  | 55 => ⟨S_, .f32⟩
  | 56 => ⟨S512, .f32⟩
  | 57 => ⟨S1x512, .f32⟩
  | 58 => ⟨S_, .f32⟩
  | 59 => ⟨S1x512, .f32⟩
  | 60 => ⟨S1x512, .f32⟩
  | 61 => ⟨S64x512, .f32⟩
  | 62 => ⟨S64x512, .f32⟩
  | 63 => ⟨S64x512, .f32⟩
  | 64 => ⟨S_, .f32⟩
  | 65 => ⟨S_, .f32⟩
  | 66 => ⟨S_, .f32⟩
  | 67 => ⟨S_, .f32⟩
  | 68 => ⟨S512, .f32⟩
  | 69 => ⟨S512, .f32⟩
  | 70 => ⟨S512, .f32⟩
  | 71 => ⟨S_, .f32⟩
  | 72 => ⟨S_, .i1⟩
  | 73 => ⟨S_, .f32⟩
  | 74 => ⟨S_, .f32⟩
  | 75 => ⟨S512, .f32⟩
  | 76 => ⟨S512, .f32⟩
  | 77 => ⟨S1x512, .f32⟩
  | 78 => ⟨S64x512, .f32⟩
  | 79 => ⟨S64x512, .f32⟩
  | 80 => ⟨S_, .f32⟩
  | 81 => ⟨S512, .f32⟩
  | 82 => ⟨S512, .f32⟩
  | 83 => ⟨S512, .f32⟩
  | 84 => ⟨S1x512, .f32⟩
  | 85 => ⟨S64x512, .f32⟩
  | 86 => ⟨S64x512, .f32⟩
  | 87 => ⟨S1x512, .f32⟩
  | 88 => ⟨S64x512, .f32⟩
  | 89 => ⟨S64x512, .f32⟩
  | 90 => ⟨S1x512, .f32⟩
  | 91 => ⟨S64x512, .f32⟩
  | 92 => ⟨S64x512, .f32⟩
  | 93 => ⟨S_, .f32⟩
  | 94 => ⟨S_, .f32⟩
  | 95 => ⟨S64x512, .f32⟩
  | 96 => ⟨S64x512, .i1⟩
  | 97 => ⟨S_, .f32⟩
  | 98 => ⟨S64x512, .f32⟩
  | 99 => ⟨S64x512, .f32⟩
  | 100 => ⟨S64x512, .f32⟩
  | 101 => ⟨S64x256, .f32⟩
  | 102 => ⟨S1x256, .f32⟩
  | 103 => ⟨S64x256, .f32⟩
  | 104 => ⟨S64x256, .f32⟩
  | 105 => ⟨S_, .f32⟩
  | 106 => ⟨S256, .f32⟩
  | 107 => ⟨S_, .f32⟩
  | 108 => ⟨S256, .f32⟩
  | 109 => ⟨S256, .f32⟩
  | 110 => ⟨S_, .i32⟩
  | 111 => ⟨S_, .f32⟩
  | 112 => ⟨S256, .f32⟩
  | 113 => ⟨S1x256, .f32⟩
  | 114 => ⟨S_, .f32⟩
  | 115 => ⟨S1x256, .f32⟩
  | 116 => ⟨S1x256, .f32⟩
  | 117 => ⟨S64x256, .f32⟩
  | 118 => ⟨S64x256, .f32⟩
  | 119 => ⟨S64x256, .f32⟩
  | 120 => ⟨S_, .f32⟩
  | 121 => ⟨S_, .f32⟩
  | 122 => ⟨S_, .f32⟩
  | 123 => ⟨S_, .f32⟩
  | 124 => ⟨S256, .f32⟩
  | 125 => ⟨S256, .f32⟩
  | 126 => ⟨S256, .f32⟩
  | 127 => ⟨S_, .f32⟩
  | _ => ⟨S50000x512, .f32⟩

abbrev hbmTy0_1 (i : Nat) : BufTy := match i % 128 with
  | 0 => ⟨S_, .i1⟩
  | 1 => ⟨S_, .f32⟩
  | 2 => ⟨S_, .f32⟩
  | 3 => ⟨S256, .f32⟩
  | 4 => ⟨S256, .f32⟩
  | 5 => ⟨S1x256, .f32⟩
  | 6 => ⟨S64x256, .f32⟩
  | 7 => ⟨S64x256, .f32⟩
  | 8 => ⟨S_, .f32⟩
  | 9 => ⟨S256, .f32⟩
  | 10 => ⟨S256, .f32⟩
  | 11 => ⟨S256, .f32⟩
  | 12 => ⟨S1x256, .f32⟩
  | 13 => ⟨S64x256, .f32⟩
  | 14 => ⟨S64x256, .f32⟩
  | 15 => ⟨S1x256, .f32⟩
  | 16 => ⟨S64x256, .f32⟩
  | 17 => ⟨S64x256, .f32⟩
  | 18 => ⟨S1x256, .f32⟩
  | 19 => ⟨S64x256, .f32⟩
  | 20 => ⟨S64x256, .f32⟩
  | 21 => ⟨S_, .f32⟩
  | 22 => ⟨S_, .f32⟩
  | 23 => ⟨S64x256, .f32⟩
  | 24 => ⟨S64x256, .i1⟩
  | 25 => ⟨S_, .f32⟩
  | 26 => ⟨S64x256, .f32⟩
  | 27 => ⟨S64x256, .f32⟩
  | 28 => ⟨S64x256, .f32⟩
  | 29 => ⟨S64x8, .f32⟩
  | 30 => ⟨S1x8, .f32⟩
  | 31 => ⟨S64x8, .f32⟩
  | 32 => ⟨S64x8, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_cst_6 : Ref sig .tc := ⟨.hbm, 51, rfl⟩
abbrev main_v28 : Ref sig .tc := ⟨.hbm, 52, rfl⟩
abbrev main_v29 : Ref sig .tc := ⟨.hbm, 53, rfl⟩
abbrev main_c : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_cst_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_cst_1 : Ref sig .tc := ⟨.hbm, 65, rfl⟩
abbrev main_call1_v8 : Ref sig .tc := ⟨.hbm, 66, rfl⟩
abbrev main_call1_cst_2 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_cst_3 : Ref sig .tc := ⟨.hbm, 71, rfl⟩
abbrev main_call1_v12 : Ref sig .tc := ⟨.hbm, 72, rfl⟩
abbrev main_call1_cst_4 : Ref sig .tc := ⟨.hbm, 73, rfl⟩
abbrev main_call1_call0_v0 : Ref sig .tc := ⟨.hbm, 74, rfl⟩
abbrev main_call1_call0_v1 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_cst_7 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_cst_8 : Ref sig .tc := ⟨.hbm, 93, rfl⟩
abbrev main_call2_cst : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_cst_9 : Ref sig .tc := ⟨.hbm, 105, rfl⟩
abbrev main_v51 : Ref sig .tc := ⟨.hbm, 106, rfl⟩
abbrev main_cst_10 : Ref sig .tc := ⟨.hbm, 107, rfl⟩
abbrev main_v52 : Ref sig .tc := ⟨.hbm, 108, rfl⟩
abbrev main_v53 : Ref sig .tc := ⟨.hbm, 109, rfl⟩
abbrev main_c_11 : Ref sig .tc := ⟨.hbm, 110, rfl⟩
abbrev main_call3_cst : Ref sig .tc := ⟨.hbm, 111, rfl⟩
abbrev main_call3_v0 : Ref sig .tc := ⟨.hbm, 112, rfl⟩
abbrev main_call3_v1 : Ref sig .tc := ⟨.hbm, 113, rfl⟩
abbrev main_call3_cst_0 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_v5 : Ref sig .tc := ⟨.hbm, 118, rfl⟩
abbrev main_call3_v6 : Ref sig .tc := ⟨.hbm, 119, rfl⟩
abbrev main_call3_v7 : Ref sig .tc := ⟨.hbm, 120, rfl⟩
abbrev main_call3_cst_1 : Ref sig .tc := ⟨.hbm, 121, rfl⟩
abbrev main_call3_v8 : Ref sig .tc := ⟨.hbm, 122, rfl⟩
abbrev main_call3_cst_2 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_cst_3 : Ref sig .tc := ⟨.hbm, 127, rfl⟩
abbrev main_call3_v12 : Ref sig .tc := ⟨.hbm, 128, rfl⟩
abbrev main_call3_cst_4 : Ref sig .tc := ⟨.hbm, 129, rfl⟩
abbrev main_call3_call0_v0 : Ref sig .tc := ⟨.hbm, 130, rfl⟩
abbrev main_call3_call0_v1 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_cst_12 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_cst_13 : Ref sig .tc := ⟨.hbm, 149, rfl⟩
abbrev main_call4_cst : Ref sig .tc := ⟨.hbm, 150, rfl⟩
abbrev main_call4_v0 : Ref sig .tc := ⟨.hbm, 151, rfl⟩
abbrev main_call4_v1 : Ref sig .tc := ⟨.hbm, 152, rfl⟩
abbrev main_call4_v2 : Ref sig .tc := ⟨.hbm, 153, rfl⟩
abbrev main_call4_v3 : Ref sig .tc := ⟨.hbm, 154, rfl⟩
abbrev main_call4_v4 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩

abbrev nD : Nat := 1
abbrev τ : Topo := Topo.v7x

variable {F : FTy → Type} [FloatOps F]
-- ==== Proof.Base.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes' rounds, the head's staging rounds and the transfers' counters -/

abbrev UH : Type := URounds (GSem nD τ sig) ℕ
abbrev UU : Type := UH × (UR sig nD τ × Counters)
abbrev EH : Emb UH (MT nD τ sig (HIx 1) (Elt F) ℕ UU ℕ) := embL
def EP : Emb (UR sig nD τ) (MT nD τ sig (HIx 1) (Elt F) ℕ UU ℕ) :=
  (Emb.inl : Emb (UR sig nD τ) (UR sig nD τ × Counters)).trans embR
instance EP_landsIn : (EP (F := F)).LandsIn (upEmb : UEmb _ (MT nD τ sig (HIx 1) (Elt F) ℕ UU ℕ)) := by
  unfold EP; infer_instance

/-! ## The place of a tile -/

/-- The SparseCore a tile of the kernel's grid lies on, and its number there. -/
abbrev cV (i : grid0.Coords) : Fin τ.nSC := (i 0).castLE hcore0
abbrev jV (i : grid0.Coords) : Fin τ.nSub := (i 1).castLE hsub0

/-! ## Offsets that a loaded word takes part in -/

theorem off6_eq (v : BitVec 32) : k0_off6 v = ![v.toNat, 0] := rfl
theorem off10_eq (v : BitVec 32) : k0_off10 v = ![v.toNat, 0] := rfl

theorem off8_eq (v : BitVec 32) (t : Fin k0_t5_loop.trips) : k0_off8 v t = ![v.toNat, 16 * t.val] := by
  have h := k0_off11_eq ⟨0, by decide⟩ ⟨0, by decide⟩ ⟨t.val, t.isLt⟩
  have h1 := congrFun h 1
  funext a
  fin_cases a
  · rfl
  · exact h1

theorem off12_eq (v : BitVec 32) (t : Fin k0_t7_loop.trips) : k0_off12 v t = ![v.toNat, 16 * t.val] := by
  have h1 := congrFun (k0_off11_eq ⟨0, by decide⟩ ⟨0, by decide⟩ t) 1
  funext a
  fin_cases a
  · rfl
  · exact h1

instance (v : BitVec 32) : ClosedOff (k0_off6 v) := ⟨![v.toNat, 0], off6_eq v⟩
instance (v : BitVec 32) : ClosedOff (k0_off10 v) := ⟨![v.toNat, 0], off10_eq v⟩
instance (v : BitVec 32) (t : Fin k0_t5_loop.trips) : ClosedOff (k0_off8 v t) := ⟨![v.toNat, 16 * t.val], off8_eq v t⟩
instance (v : BitVec 32) (t : Fin k0_t7_loop.trips) : ClosedOff (k0_off12 v t) := ⟨![v.toNat, 16 * t.val], off12_eq v t⟩

/-- The zeroing loop's trip `t` is row `t / 32`, column block `t % 32`. -/
theorem off1_eq (t : Fin k0_t1_loop.trips) : k0_off1 t = ![t.val / 32, 16 * (t.val % 32)] := by
  revert t; decide +kernel

instance (t : Fin k0_t1_loop.trips) : ClosedOff (k0_off1 t) := ⟨![t.val / 32, 16 * (t.val % 32)], off1_eq t⟩

end Cert.Proof.Pool

end
-- ==== Proof.Model.lean ====
module

public import proofs.«01_k».proof.Proof.Base

/-!
# What one tile computes, as functions of the rows it is given

A tile keeps three arrays: a running maximum and a running sum of rows per segment, and a row count per segment (the same
count in each of the sixteen lanes). It takes its rows in groups of sixteen. A group whose first and last row have the same
segment number is folded in at once; any other group is folded in row by row.
-/

@[expose] public section

noncomputable section

namespace Cert.Proof.Pool

open Cert.KernelIdeal Cert.KernelIdeal.Gen
open Idealize.ShloMosaic

/-! ## Indices by their coordinates -/

/-- The element of row `r` and column `c`. -/
abbrev at80 (r : Fin 80) (c : Fin 512) : S80x512.Idx := fun | 0 => r | 1 => c
abbrev at64 (r : Fin 64) (c : Fin 512) : S64x512.Idx := fun | 0 => r | 1 => c
abbrev atC (r : Fin 64) (c : Fin 16) : S64x16.Idx := fun | 0 => r | 1 => c
abbrev atX (r : Fin 50000) (c : Fin 512) : S50000x512.Idx := fun | 0 => r | 1 => c
abbrev atG (r : Fin 50000) : S50000.Idx := fun | 0 => r
abbrev at96 (r : Fin 96) : S96.Idx := fun | 0 => r
abbrev lane (l : Fin 16) : S1x16.Idx := fun | 0 => (0 : Fin 1) | 1 => l
abbrev atP (w : Fin 32) (r : Fin 64) (c : Fin 512) : S32x64x512.Idx := fun | 0 => w | 1 => r | 2 => c
abbrev atN (w : Fin 32) (r : Fin 64) (c : Fin 16) : S32x64x16.Idx := fun | 0 => w | 1 => r | 2 => c

variable {F : FTy → Type} [FloatOps F]

/-! ## Rows and segment numbers by row number -/

/-- Row `n` of the input, by a row number. -/
def rowOf (x : S50000x512.Idx → F .f32) (n : ℕ) (c : Fin 512) : F .f32 := x (atX (Fin.ofNat 50000 n) c)
/-- The segment number of row `n`. -/
def segOf (g : S50000.Idx → BitVec 32) (n : ℕ) : BitVec 32 := g (atG (Fin.ofNat 50000 n))

/-! ## The tile's arrays -/

structure St (F : FTy → Type) where
  mx : S64x512.Idx → F .f32
  sm : S64x512.Idx → F .f32
  ct : S64x16.Idx → F .f32

/-- `A` with the first `n` columns of row `s` replaced by `g` of the old value and the column. -/
def rowTo (A : S64x512.Idx → F .f32) (s n : ℕ) (g : F .f32 → Fin 512 → F .f32) : S64x512.Idx → F .f32 :=
  fun y => if (y 0).val = s ∧ (y 1).val < n then g (A y) (y 1) else A y

/-- The counts with `k` added to every lane of row `s`. -/
def countTo (C : S64x16.Idx → F .f32) (s : ℕ) (k : F .f32) : S64x16.Idx → F .f32 :=
  fun y => if (y 0).val = s then FloatOps.addf (C y) k else C y

/-- Sixteen values combined pairwise by `op`, as a tree. -/
def tree (op : F .f32 → F .f32 → F .f32) (u : ℕ → F .f32) : F .f32 :=
  op (op (op (op (u 0) (u 1)) (op (u 2) (u 3))) (op (op (u 4) (u 5)) (op (u 6) (u 7))))
    (op (op (op (u 8) (u 9)) (op (u 10) (u 11))) (op (op (u 12) (u 13)) (op (u 14) (u 15))))

def one : F .f32 := FloatOps.ofBits .f32 0x3F800000#32
def sixteen : F .f32 := FloatOps.ofBits .f32 0x41800000#32

variable (xr : ℕ → Fin 512 → F .f32) (ir : ℕ → BitVec 32)

/-- What a group folded in at once makes of an old maximum (sum) in a column. -/
def fastMax (n : ℕ) (a : F .f32) (c : Fin 512) : F .f32 := FloatOps.maximumf a (tree FloatOps.maximumf fun l => xr (n + l) c)
def fastSum (n : ℕ) (a : F .f32) (c : Fin 512) : F .f32 := FloatOps.addf a (tree FloatOps.addf fun l => xr (n + l) c)
/-- What one row makes of an old maximum (sum) in a column. -/
def rowMax (n : ℕ) (a : F .f32) (c : Fin 512) : F .f32 := FloatOps.maximumf a (xr n c)
def rowSum (n : ℕ) (a : F .f32) (c : Fin 512) : F .f32 := FloatOps.addf a (xr n c)

/-- The sixteen rows from row `n` folded in at once, all under the segment number of the first. -/
def fast (n : ℕ) (st : St F) : St F where
  mx := rowTo st.mx (ir n).toNat 512 (fastMax xr n)
  sm := rowTo st.sm (ir n).toNat 512 (fastSum xr n)
  ct := countTo st.ct (ir n).toNat sixteen

/-- Row `n` folded in. -/
def row (n : ℕ) (st : St F) : St F where
  mx := rowTo st.mx (ir n).toNat 512 (rowMax xr n)
  sm := rowTo st.sm (ir n).toNat 512 (rowSum xr n)
  ct := countTo st.ct (ir n).toNat one

/-- The `k` rows from row `n` folded in one after another. -/
def rows (n : ℕ) : ℕ → St F → St F
  | 0, st => st
  | k + 1, st => row xr ir (n + k) (rows n k st)

/-- The group of sixteen rows from row `n`. -/
def grp (n : ℕ) (st : St F) : St F := if ir n = ir (n + 15) then fast xr ir n st else rows xr ir n 16 st

/-- The `k` groups from row `n`. -/
def grps (n : ℕ) : ℕ → St F → St F
  | 0, st => st
  | k + 1, st => grp xr ir (n + 16 * k) (grps n k st)

/-- The arrays before the first row: no maximum, no sum, no count. -/
def st0 : St F where
  mx := fun _ => FloatOps.ofBits .f32 0xFF800000#32
  sm := fun _ => FloatOps.ofBits .f32 0x00000000#32
  ct := fun _ => FloatOps.ofBits .f32 0x00000000#32

/-! ## The share of a tile -/

/-- The number of the tile of core `i 0` and subcore `i 1`. -/
def wid (i : grid0.Coords) : ℕ := 2 * (i 1).val + (i 0).val
/-- The first chunk of eighty rows of tile `w`, and how many it has. -/
def firstChunk (w : ℕ) : ℕ := 19 * w + min w 17
def nChunks (w : ℕ) : ℕ := if w < 17 then 20 else 19

/-- What tile `w` leaves in its arrays. -/
def tileSt (x : S50000x512.Idx → F .f32) (g : S50000.Idx → BitVec 32) (w : ℕ) : St F :=
  grps (rowOf x) (segOf g) (80 * firstChunk w) (5 * nChunks w) st0

/-- The three partial results, tile by tile. -/
def partMax (x : S50000x512.Idx → F .f32) (g : S50000.Idx → BitVec 32) : S32x64x512.Idx → F .f32 :=
  fun y => (tileSt x g (y 0).val).mx (at64 (y 1) (y 2))
def partSum (x : S50000x512.Idx → F .f32) (g : S50000.Idx → BitVec 32) : S32x64x512.Idx → F .f32 :=
  fun y => (tileSt x g (y 0).val).sm (at64 (y 1) (y 2))
def partCnt (x : S50000x512.Idx → F .f32) (g : S50000.Idx → BitVec 32) : S32x64x16.Idx → F .f32 :=
  fun y => (tileSt x g (y 0).val).ct (atC (y 1) (y 2))

/-! ## The row update, a block of sixteen columns at a time -/

omit [FloatOps F] in
theorem rowTo_zero (A : S64x512.Idx → F .f32) (s : ℕ) (g : F .f32 → Fin 512 → F .f32) : rowTo A s 0 g = A := by
  funext y; simp [rowTo]

end Cert.Proof.Pool

end
-- ==== Proof.Cells.lean ====
module

public import proofs.«01_k».proof.Proof.Model
public import Idealize.ShloMosaic.Lib.Pipeline.Value

/-!
# The tile's loads and stores, read cell by cell

Each access of the accumulators is a block of sixteen lanes of one row.
-/

@[expose] public section

noncomputable section

namespace Cert.Proof.Pool

open Cert.KernelIdeal Cert.KernelIdeal.Gen
open Idealize.ShloMosaic

variable {F : FTy → Type}

theorem lane_eta (x : S1x16.Idx) : x = lane (x 1) := by
  funext a; fin_cases a
  · exact Subsingleton.elim (α := Fin 1) _ _
  · rfl

/-- The sixteen lanes of a block, as a one-axis vector and as a one-row array. -/
abbrev lane1 (l : Fin 16) : S16.Idx := fun | 0 => l

theorem cast_row_apply {α : Type} (v : S16.Idx → α) (l : Fin 16) : shapeCast S1x16 v shapeCasts_S16_S1x16 (lane l) = v (lane1 l) :=
  shapeCast_apply _ _ _ _ (by revert l; decide)

theorem cast_vec_apply {α : Type} (v : S1x16.Idx → α) (l : Fin 16) : shapeCast S16 v shapeCasts_S1x16_S16 (lane1 l) = v (lane l) :=
  shapeCast_apply _ _ _ _ (by revert l; decide)

/-! ## The values a row's trip stores -/

section Pay
variable [FloatOps F]

theorem pay49_apply (v : Vec F S1x16 .f32) (l : Fin 16) : k0_pay49 v (lane1 l) = v (lane l) := by
  unfold k0_pay49; exact cast_vec_apply v l

theorem pay50_apply (u v : Vec F S1x16 .f32) (l : Fin 16) : k0_pay50 u v (lane l) = FloatOps.maximumf (v (lane l)) (u (lane l)) := by
  unfold k0_pay50
  exact (cast_row_apply _ l).trans (congrArg₂ FloatOps.maximumf (cast_vec_apply v l) (pay49_apply u l))

theorem pay51_apply (u v : Vec F S1x16 .f32) (l : Fin 16) : k0_pay51 u v (lane l) = FloatOps.addf (v (lane l)) (u (lane l)) := by
  unfold k0_pay51
  exact (cast_row_apply _ l).trans (congrArg₂ FloatOps.addf (cast_vec_apply v l) (pay49_apply u l))

theorem pay48_apply (v : Vec F S1x16 .f32) (l : Fin 16) : k0_pay48 v (lane l) = FloatOps.addf (v (lane l)) one := by
  unfold k0_pay48
  exact (cast_row_apply _ l).trans (congrArg₂ FloatOps.addf (cast_vec_apply v l) rfl)

theorem pay43_apply (v : Vec F S1x16 .f32) (l : Fin 16) : k0_pay43 v (lane l) = FloatOps.addf (v (lane l)) sixteen := by
  unfold k0_pay43
  exact (cast_row_apply _ l).trans (congrArg₂ FloatOps.addf (cast_vec_apply v l) rfl)

/-- The maxima of a group folded in at once: sixteen rows as loaded, then the old maxima. -/
theorem pay44_17_apply (u : ℕ → Vec F S1x16 .f32) (v : Vec F S1x16 .f32) (l : Fin 16) :
    k0_pay44 (k0_pay17 (k0_pay1 (u 0)) (k0_pay2 (u 1)) (k0_pay3 (u 2)) (k0_pay4 (u 3)) (k0_pay5 (u 4)) (k0_pay6 (u 5)) (k0_pay7 (u 6))
      (k0_pay8 (u 7)) (k0_pay9 (u 8)) (u 9) (u 10) (u 11) (u 12) (u 13) (u 14) (u 15) v) (lane l)
      = FloatOps.maximumf (v (lane l)) (tree FloatOps.maximumf fun k => u k (lane l)) := by
  unfold k0_pay44 k0_pay17 k0_pay1 k0_pay2 k0_pay3 k0_pay4 k0_pay5 k0_pay6 k0_pay7 k0_pay8 k0_pay9 k0_pay10 k0_pay11 k0_pay12
    k0_pay13 k0_pay14 k0_pay15 k0_pay16
  refine (cast_row_apply _ l).trans ?_
  simp only [maximumf, cast_vec_apply, tree]

/-- The sums of a group folded in at once. -/
theorem pay46_apply (u : ℕ → Vec F S1x16 .f32) (v : Vec F S1x16 .f32) (l : Fin 16) :
    k0_pay46 (k0_pay9 (u 8)) (k0_pay10 (u 9)) (k0_pay11 (u 10)) (k0_pay12 (u 11)) (k0_pay13 (u 12)) (k0_pay14 (u 13)) (k0_pay15 (u 14))
      (k0_pay16 (u 15)) v (k0_pay45 (k0_pay1 (u 0)) (k0_pay2 (u 1)) (k0_pay3 (u 2)) (k0_pay4 (u 3)) (k0_pay5 (u 4)) (k0_pay6 (u 5))
        (k0_pay7 (u 6)) (k0_pay8 (u 7))) (lane l)
      = FloatOps.addf (v (lane l)) (tree FloatOps.addf fun k => u k (lane l)) := by
  unfold k0_pay46 k0_pay45 k0_pay1 k0_pay2 k0_pay3 k0_pay4 k0_pay5 k0_pay6 k0_pay7 k0_pay8 k0_pay9 k0_pay10 k0_pay11 k0_pay12
    k0_pay13 k0_pay14 k0_pay15 k0_pay16
  refine (cast_row_apply _ l).trans ?_
  simp only [addf, cast_vec_apply, tree]

theorem pay37_apply (l : Fin 16) : k0_pay37 (F := F) (lane l) = FloatOps.ofBits .f32 0xFF800000#32 := by
  unfold k0_pay37; exact cast_row_apply _ l
theorem pay38_apply (l : Fin 16) : k0_pay38 (F := F) (lane l) = FloatOps.ofBits .f32 0x00000000#32 := by
  unfold k0_pay38; exact cast_row_apply _ l
theorem pay39_apply (l : Fin 16) : k0_pay39 (F := F) (lane l) = FloatOps.ofBits .f32 0x00000000#32 := by
  unfold k0_pay39; exact cast_row_apply _ l

/-- The first and the last segment number of a group, and the first of a row's window. -/
theorem first_eq (v : Vec F S16 .i32) : extractAt ![0] (k0_pay41 v) inpos_S1_p0 = v (lane1 0) := by
  unfold k0_pay41 k0_pay40; simp only [shapeCast_self]; exact congrArg v (by decide)
theorem last_eq (v : Vec F S16 .i32) : extractAt ![0] (k0_pay42 v) inpos_S1_p0 = v (lane1 15) := by
  unfold k0_pay42 k0_pay40; simp only [shapeCast_self]; exact congrArg v (by decide)
theorem word_eq (v : Vec F S16 .i32) : extractAt ![0] (k0_pay47 v) inpos_S1_p0 = v (lane1 0) := by
  unfold k0_pay47; simp only [shapeCast_self]; exact congrArg v (by decide)

end Pay

/-- A block read back from an array of 64 rows of 512. -/
theorem block_emb64 {off : Fin 2 → ℕ} {inb : ∀ a, off a + S1x16.size a ≤ S64x512.size a} {s h : ℕ} (ho : off = ![s, 16 * h])
    (hs : s < 64) (hh : h < 32) (l : Fin 16) :
    (Rect.unit (s := S64x512) off S1x16.size inb).emb (lane l) = at64 ⟨s, hs⟩ ⟨16 * h + l.val, by omega⟩ := by
  subst ho
  funext a; apply Fin.ext; fin_cases a
  · show s + 1 * 0 = s; omega
  · show 16 * h + 1 * l.val = _; simp

theorem block_emb80 {off : Fin 2 → ℕ} {inb : ∀ a, off a + S1x16.size a ≤ S80x512.size a} {r h : ℕ} (ho : off = ![r, 16 * h])
    (hr : r < 80) (hh : h < 32) (l : Fin 16) :
    (Rect.unit (s := S80x512) off S1x16.size inb).emb (lane l) = at80 ⟨r, hr⟩ ⟨16 * h + l.val, by omega⟩ := by
  subst ho
  funext a; apply Fin.ext; fin_cases a
  · show r + 1 * 0 = r; omega
  · show 16 * h + 1 * l.val = _; simp

theorem block_embC {off : Fin 2 → ℕ} {inb : ∀ a, off a + S1x16.size a ≤ S64x16.size a} {s : ℕ} (ho : off = ![s, 0])
    (hs : s < 64) (l : Fin 16) :
    (Rect.unit (s := S64x16) off S1x16.size inb).emb (lane l) = atC ⟨s, hs⟩ l := by
  subst ho
  funext a; apply Fin.ext; fin_cases a
  · show s + 1 * 0 = s; omega
  · show 0 + 1 * l.val = _; simp

theorem window_emb {off : Fin 1 → ℕ} {inb : ∀ a, off a + S16.size a ≤ S96.size a} {r : ℕ} (ho : off = ![r]) (l : Fin 16) (hr : r + l.val < 96) :
    (Rect.unit (s := S96) off S16.size inb).emb (lane1 l) = at96 ⟨r + l.val, hr⟩ := by
  subst ho
  funext a; apply Fin.ext; fin_cases a
  show r + 1 * l.val = _; simp

/-- A block's store carries the row update sixteen columns further. -/
theorem writes_block {κ : Kind} {sp : Space} (v : View sig κ sp S64x512 .f32) (f : v.ty.Contents (Elt F)) (A : S64x512.Idx → F .f32)
    {s h : ℕ} (hs : s < 64) (hh : h < 32) (g : F .f32 → Fin 512 → F .f32) {off : Fin 2 → ℕ}
    {inb : ∀ a, off a + S1x16.size a ≤ S64x512.size a} (ho : off = ![s, 16 * h]) (w : S1x16.Idx → F .f32)
    (hf : v.read (Elt F) f = rowTo A s (16 * h) g)
    (hw : ∀ l : Fin 16, w (lane l) = g (A (at64 ⟨s, hs⟩ ⟨16 * h + l.val, by omega⟩)) ⟨16 * h + l.val, by omega⟩) :
    v.read (Elt F) (v.writes (Elt F) f [⟨Rect.unit (s := S64x512) off S1x16.size inb, w⟩]) = rowTo A s (16 * (h + 1)) g := by
  funext y
  by_cases hy : (y 0).val = s ∧ 16 * h ≤ (y 1).val ∧ (y 1).val < 16 * (h + 1)
  · obtain ⟨h0, h1, h2⟩ := hy
    have hy : y = at64 ⟨s, hs⟩ ⟨16 * h + ((y 1).val - 16 * h), by omega⟩ := by
      funext a; apply Fin.ext; fin_cases a
      · exact h0
      · show (y 1).val = 16 * h + ((y 1).val - 16 * h); omega
    have hl : (y 1).val - 16 * h < 16 := by omega
    refine (View.read_writes_cons_hit v f (Rect.unit (s := S64x512) off S1x16.size inb) w [] (lane ⟨(y 1).val - 16 * h, hl⟩) y
      ((block_emb64 ho hs hh _).trans hy.symm)).trans ?_
    rw [hw]
    have e : rowTo A s (16 * (h + 1)) g y = g (A y) (y 1) := if_pos ⟨h0, h2⟩
    rw [e]
    conv_rhs => rw [hy]
  · rw [View.read_writes_cons_miss v f _ [] y (fun hm => hy ?_)]
    · show v.read (Elt F) f y = _
      rw [hf]
      simp only [rowTo]
      by_cases h1 : (y 0).val = s ∧ (y 1).val < 16 * h
      · rw [if_pos h1, if_pos ⟨h1.1, by omega⟩]
      · rw [if_neg h1, if_neg (fun h2 => ?_)]
        exact hy ⟨h2.1, by by_contra h3; exact h1 ⟨h2.1, by omega⟩, h2.2⟩
    · subst ho
      obtain ⟨j0, hj0, e0⟩ := (LoadRect.mem_set _).mp hm 0
      obtain ⟨j1, hj1, e1⟩ := (LoadRect.mem_set _).mp hm 1
      change j0 < 1 at hj0; change j1 < 16 at hj1
      change (y 0).val = s + 1 * j0 at e0; change (y 1).val = 16 * h + 1 * j1 at e1
      omega

/-- A row's store into the counts. -/
theorem writes_count [FloatOps F] {κ : Kind} {sp : Space} (v : View sig κ sp S64x16 .f32) (f : v.ty.Contents (Elt F)) (C : S64x16.Idx → F .f32)
    {s : ℕ} (hs : s < 64) (k : F .f32) {off : Fin 2 → ℕ}
    {inb : ∀ a, off a + S1x16.size a ≤ S64x16.size a} (ho : off = ![s, 0]) (w : S1x16.Idx → F .f32)
    (hf : v.read (Elt F) f = C) (hw : ∀ l : Fin 16, w (lane l) = FloatOps.addf (C (atC ⟨s, hs⟩ l)) k) :
    v.read (Elt F) (v.writes (Elt F) f [⟨Rect.unit (s := S64x16) off S1x16.size inb, w⟩]) = countTo C s k := by
  funext y
  by_cases h0 : (y 0).val = s
  · have hy : y = atC ⟨s, hs⟩ (y 1) := by
      funext a; apply Fin.ext; fin_cases a
      · exact h0
      · rfl
    refine (View.read_writes_cons_hit v f (Rect.unit (s := S64x16) off S1x16.size inb) w [] (lane (y 1)) y
      ((block_embC ho hs _).trans hy.symm)).trans ((hw (y 1)).trans ?_)
    have e : countTo C s k y = FloatOps.addf (C y) k := if_pos h0
    rw [e]
    conv_rhs => rw [hy]
  · rw [View.read_writes_cons_miss v f _ [] y (fun hm => h0 ?_)]
    · show v.read (Elt F) f y = _
      rw [hf]
      exact (if_neg h0).symm
    · subst ho
      obtain ⟨j0, hj0, e0⟩ := (LoadRect.mem_set _).mp hm 0
      change j0 < 1 at hj0
      change (y 0).val = s + 1 * j0 at e0
      omega

/-- The old value under a block that the row update has not reached. -/
theorem rowTo_at (A : S64x512.Idx → F .f32) {s h : ℕ} (hs : s < 64) (hh : h < 32) (g : F .f32 → Fin 512 → F .f32) (l : Fin 16) :
    rowTo A s (16 * h) g (at64 ⟨s, hs⟩ ⟨16 * h + l.val, by omega⟩) = A (at64 ⟨s, hs⟩ ⟨16 * h + l.val, by omega⟩) :=
  if_neg fun h2 => by have := h2.2; simp at this

end Cert.Proof.Pool

end
-- ==== Proof.Trips.lean ====
module

public import proofs.«01_k».proof.Proof.Cells

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "xH" => (Memref.whole Cert.KernelIdeal.main_arg0_scv : Memref Cert.KernelIdeal.sig Kind.scVector Space.hbm Cert.KernelIdeal.S50000x512 EltTy.f32)
local notation "gH" => (Memref.whole Cert.KernelIdeal.main_arg1_scv : Memref Cert.KernelIdeal.sig Kind.scVector Space.hbm Cert.KernelIdeal.S50000 EltTy.i32)
local notation "pmH" => (Memref.whole Cert.KernelIdeal.main_v0_0_scv : Memref Cert.KernelIdeal.sig Kind.scVector Space.hbm Cert.KernelIdeal.S32x64x512 EltTy.f32)
local notation "psH" => (Memref.whole Cert.KernelIdeal.main_v0_1_scv : Memref Cert.KernelIdeal.sig Kind.scVector Space.hbm Cert.KernelIdeal.S32x64x512 EltTy.f32)
local notation "pcH" => (Memref.whole Cert.KernelIdeal.main_v0_2_scv : Memref Cert.KernelIdeal.sig Kind.scVector Space.hbm Cert.KernelIdeal.S32x64x16 EltTy.f32)
local notation "xT" => (Memref.whole Cert.KernelIdeal.cc0_scratch0 : Memref Cert.KernelIdeal.sig Kind.scVector Space.vmem Cert.KernelIdeal.S80x512 EltTy.f32)
local notation "gT" => (Memref.whole Cert.KernelIdeal.cc0_scratch1 : Memref Cert.KernelIdeal.sig Kind.scVector Space.vmem Cert.KernelIdeal.S96 EltTy.i32)
local notation "mT" => (Memref.whole Cert.KernelIdeal.cc0_scratch2 : Memref Cert.KernelIdeal.sig Kind.scVector Space.vmem Cert.KernelIdeal.S64x512 EltTy.f32)
local notation "sT" => (Memref.whole Cert.KernelIdeal.cc0_scratch3 : Memref Cert.KernelIdeal.sig Kind.scVector Space.vmem Cert.KernelIdeal.S64x512 EltTy.f32)
local notation "cT" => (Memref.whole Cert.KernelIdeal.cc0_scratch4 : Memref Cert.KernelIdeal.sig Kind.scVector Space.vmem Cert.KernelIdeal.S64x16 EltTy.f32)

variable (d : Dev nD) (L : grid0.Coords)

/-! ## The tile's buffers, held whole -/

abbrev ptX (X : S80x512.Idx → F .f32) : sProp 𝕄 := (xT).view.loc (V d (cV L) (jV L)) ↦[(xT).view.set]{fullShare} X
abbrev ptG (G : S96.Idx → BitVec 32) : sProp 𝕄 := (gT).view.loc (V d (cV L) (jV L)) ↦[(gT).view.set]{fullShare} G
abbrev ptM (A : S64x512.Idx → F .f32) : sProp 𝕄 := (mT).view.loc (V d (cV L) (jV L)) ↦[(mT).view.set]{fullShare} A
abbrev ptS (B : S64x512.Idx → F .f32) : sProp 𝕄 := (sT).view.loc (V d (cV L) (jV L)) ↦[(sT).view.set]{fullShare} B
abbrev ptC (C : S64x16.Idx → F .f32) : sProp 𝕄 := (cT).view.loc (V d (cV L) (jV L)) ↦[(cT).view.set]{fullShare} C

/-- The rows a tile holds are the rows from `n` on. -/
def HoldsX (X : S80x512.Idx → F .f32) (xr : ℕ → Fin 512 → F .f32) (n : ℕ) : Prop := ∀ (r : Fin 80) (c : Fin 512), X (at80 r c) = xr (n + r.val) c
/-- The segment numbers a tile holds are those of the rows from `n` on. -/
def HoldsG (G : S96.Idx → BitVec 32) (ir : ℕ → BitVec 32) (n : ℕ) : Prop := ∀ r : Fin 80, G (at96 ⟨r.val, by omega⟩) = ir (n + r.val)

variable {X : S80x512.Idx → F .f32} {G : S96.Idx → BitVec 32} {xr : ℕ → Fin 512 → F .f32} {ir : ℕ → BitVec 32} {n : ℕ}

/-! ## The stores as updates -/

omit [FloatOps F] in
theorem writesM (A : S64x512.Idx → F .f32) {s h : ℕ} (hs : s < 64) (hh : h < 32) (g : F .f32 → Fin 512 → F .f32) {off : Fin 2 → ℕ}
    {inb : ∀ a, off a + S1x16.size a ≤ S64x512.size a} (ho : off = ![s, 16 * h]) (w : S1x16.Idx → F .f32)
    (hw : ∀ l : Fin 16, w (lane l) = g (A (at64 ⟨s, hs⟩ ⟨16 * h + l.val, by omega⟩)) ⟨16 * h + l.val, by omega⟩) :
    (mT).view.writes (Elt F) (rowTo A s (16 * h) g) [⟨Rect.unit (s := S64x512) off S1x16.size inb, w⟩] = rowTo A s (16 * (h + 1)) g :=
  writes_block (F := F) (mT).view _ A hs hh g ho w rfl hw

omit [FloatOps F] in
theorem writesS (A : S64x512.Idx → F .f32) {s h : ℕ} (hs : s < 64) (hh : h < 32) (g : F .f32 → Fin 512 → F .f32) {off : Fin 2 → ℕ}
    {inb : ∀ a, off a + S1x16.size a ≤ S64x512.size a} (ho : off = ![s, 16 * h]) (w : S1x16.Idx → F .f32)
    (hw : ∀ l : Fin 16, w (lane l) = g (A (at64 ⟨s, hs⟩ ⟨16 * h + l.val, by omega⟩)) ⟨16 * h + l.val, by omega⟩) :
    (sT).view.writes (Elt F) (rowTo A s (16 * h) g) [⟨Rect.unit (s := S64x512) off S1x16.size inb, w⟩] = rowTo A s (16 * (h + 1)) g :=
  writes_block (F := F) (sT).view _ A hs hh g ho w rfl hw

theorem writesC (C : S64x16.Idx → F .f32) {s : ℕ} (hs : s < 64) (k : F .f32) {off : Fin 2 → ℕ}
    {inb : ∀ a, off a + S1x16.size a ≤ S64x16.size a} (ho : off = ![s, 0]) (w : S1x16.Idx → F .f32)
    (hw : ∀ l : Fin 16, w (lane l) = FloatOps.addf (C (atC ⟨s, hs⟩ l)) k) :
    (cT).view.writes (Elt F) C [⟨Rect.unit (s := S64x16) off S1x16.size inb, w⟩] = countTo C s k :=
  writes_count (F := F) (cT).view _ C hs k ho w rfl hw

/-! ## One row -/

/-- The maxima and sums while a row is folded in, sixteen columns a trip. -/
def rowInv (X : S80x512.Idx → F .f32) (xr : ℕ → Fin 512 → F .f32) (k s : ℕ) (A B : S64x512.Idx → F .f32) (h : ℕ) (_ : Unit) : sProp 𝕄 :=
  iprop(ptX d L X ∗ ptM d L (rowTo A s (16 * h) (rowMax xr k)) ∗ ptS d L (rowTo B s (16 * h) (rowSum xr k)))

theorem t7_trip (hX : HoldsX X xr n) (t4 : Fin k0_t4_loop.trips) (v26 v28 : BitVec 32) (h2 : k0_cond2 v26 v28 = 1#1)
    (t6 : Fin k0_t6_loop.trips) (v42 : BitVec 32) (hw2 : k0_chk2 v26 v28 v42) {s : ℕ} (hv : v42.toNat = s) (hs : s < 64)
    (t7 : Fin k0_t7_loop.trips) (A B : S64x512.Idx → F .f32) :
    rowInv d L X xr (n + (16 * t4.val + t6.val)) s A B t7.val ()
      ⊢ wp frame (wpE (defs₀ (F := F)) 𝒱₀ (V d (cV L) (jV L)) none) Set.univ
        (k0_t7_body L xH (Memref.isWhole_whole _) gH (Memref.isWhole_whole _) pmH (Memref.isWhole_whole _) psH (Memref.isWhole_whole _)
          pcH (Memref.isWhole_whole _) xT (Memref.isWhole_whole _) gT (Memref.isWhole_whole _) mT (Memref.isWhole_whole _)
          sT (Memref.isWhole_whole _) cT (Memref.isWhole_whole _) cc0_scoped0 cc0_scoped1 cc0_scoped2 cc0_scoped3 cc0_scoped4
          cc0_scoped5 cc0_scoped6 t4 v26 v28 h2 t6 v42 hw2 t7 ())
        fun u => (rowInv d L X xr (n + (16 * t4.val + t6.val)) s A B (t7.val + 1) u : sProp 𝕄) := by
  subst hv
  have h7 : t7.val < 32 := t7.isLt
  have h4 : t4.val < 5 := t4.isLt
  have h6 : t6.val < 16 := t6.isLt
  have hr : 16 * t4.val + t6.val < 80 := by omega
  have eX (l : Fin 16) := (congrArg X (block_emb80 (inb := k0_off11_inb t4 t6 t7) (k0_off11_eq t4 t6 t7) hr h7 l)).trans (hX ⟨_, hr⟩ _)
  have eA (A' : S64x512.Idx → F .f32) (l : Fin 16) := congrArg A' (block_emb64 (inb := k0_off12_inb v26 v28 v42 hw2 t7 h2) (off12_eq v42 t7) hs h7 l)
  unfold k0_t7_body rowInv
  iintro ⟨HX, HA, HB⟩
  sl_exec
  sl_step
  rw [writesM A hs h7 _ (off12_eq v42 t7) _ (fun l => (pay50_apply _ _ l).trans
      (congrArg₂ FloatOps.maximumf ((eA _ l).trans (rowTo_at A hs h7 _ l)) (eX l))),
    writesS B hs h7 _ (off12_eq v42 t7) _ (fun l => (pay51_apply _ _ l).trans
      (congrArg₂ FloatOps.addf ((eA _ l).trans (rowTo_at B hs h7 _ l)) (eX l)))]
  isplitl [HX]; · iexact HX
  isplitl [HA]; · iexact HA
  iexact HB

/-! ## A group, row by row -/

/-- The tile's five buffers, the three accumulators at `st`. -/
def heldAt (X : S80x512.Idx → F .f32) (G : S96.Idx → BitVec 32) (st : St F) : sProp 𝕄 :=
  iprop(ptX d L X ∗ ptG d L G ∗ ptM d L st.mx ∗ ptS d L st.sm ∗ ptC d L st.ct)

/-- A segment number in range is a row of the accumulators. -/
theorem chk2_of (v26 v28 v42 : BitVec 32) (h : v42.toNat < 64) : k0_chk2 v26 v28 v42 := by
  refine ⟨fun _ a => ?_, fun t _ a => ?_⟩
  · rw [off10_eq]; fin_cases a
    · show v42.toNat + 1 ≤ 64; omega
    · show 0 + 16 ≤ 16; omega
  · rw [off12_eq]; have : t.val < 32 := t.isLt; fin_cases a
    · show v42.toNat + 1 ≤ 64; omega
    · show 16 * t.val + 16 ≤ 512; omega

theorem trips7 : Scf.trips k0_t7_loop.lb k0_t7_loop.ub k0_t7_loop.st = 32 := by decide

theorem t6_trip (hX : HoldsX X xr n) (hG : HoldsG G ir n) (hR : ∀ k, (ir k).toNat < 64) (t4 : Fin k0_t4_loop.trips) (v26 v28 : BitVec 32)
    (h2 : k0_cond2 v26 v28 = 1#1) (t6 : Fin k0_t6_loop.trips) (st : St F) :
    heldAt d L X G st
      ⊢ wp frame (wpE (defs₀ (F := F)) 𝒱₀ (V d (cV L) (jV L)) none) Set.univ
        (k0_t6_body L xH (Memref.isWhole_whole _) gH (Memref.isWhole_whole _) pmH (Memref.isWhole_whole _) psH (Memref.isWhole_whole _)
          pcH (Memref.isWhole_whole _) xT (Memref.isWhole_whole _) gT (Memref.isWhole_whole _) mT (Memref.isWhole_whole _)
          sT (Memref.isWhole_whole _) cT (Memref.isWhole_whole _) cc0_scoped0 cc0_scoped1 cc0_scoped2 cc0_scoped3 cc0_scoped4
          cc0_scoped5 cc0_scoped6 t4 v26 v28 h2 t6 ())
        fun _ => (heldAt d L X G (row xr ir (n + (16 * t4.val + t6.val)) st) : sProp 𝕄) := by
  have h4 : t4.val < 5 := t4.isLt
  have h6 : t6.val < 16 := t6.isLt
  have hr : 16 * t4.val + t6.val < 80 := by omega
  have hW : extractAt ![0] (k0_pay47 (F := F) (View.readAt (Elt F) (gT).view (Rect.unit (s := S96) (k0_off9 t4 t6) S16.size (k0_off9_inb t4 t6)).toLoadRect G))
      inpos_S1_p0 = ir (n + (16 * t4.val + t6.val)) :=
    (word_eq _).trans ((congrArg G (window_emb (k0_off9_eq t4 t6) 0 (show 16 * t4.val + t6.val + 0 < 96 by omega))).trans (hG ⟨_, hr⟩))
  have hs := hR (n + (16 * t4.val + t6.val))
  unfold k0_t6_body heldAt
  iintro ⟨HX, HG, HA, HB, HC⟩
  sl_exec (disch := exact chk2_of _ _ _ (lt_of_eq_of_lt (congrArg BitVec.toNat hW) hs))
  sl_for (rowInv d L X xr (n + (16 * t4.val + t6.val)) (ir (n + (16 * t4.val + t6.val))).toNat st.mx st.sm) $$ [HX HA HB]
  case region =>
    intro k _
    exact t7_trip d L hX t4 v26 v28 h2 t6 _ _ (congrArg BitVec.toNat hW) hs k st.mx st.sm
  · unfold rowInv
    rw [Nat.mul_zero, rowTo_zero, rowTo_zero]
    isplitl [HX]; · iexact HX
    isplitl [HA]; · iexact HA
    iexact HB
  iintro %_ HI
  unfold rowInv
  icases HI with ⟨HX, HA, HB⟩
  sl_exec
  sl_step
  rw [writesC st.ct hs one (by rw [← hW]; exact off10_eq _) _ (fun l => (pay48_apply _ l).trans
    (congrArg (FloatOps.addf · one) (congrArg st.ct (block_embC (by rw [← hW]; exact off10_eq _) hs l)))), trips7]
  isplitl [HX]; · iexact HX
  isplitl [HG]; · iexact HG
  isplitl [HA]; · iexact HA
  isplitl [HB]; · iexact HB
  iexact HC

/-! ## A group at once -/

/-- The maxima and sums while a group is folded in at once, sixteen columns a trip. -/
def fastInv (X : S80x512.Idx → F .f32) (xr : ℕ → Fin 512 → F .f32) (k s : ℕ) (A B : S64x512.Idx → F .f32) (h : ℕ) (_ : Unit) : sProp 𝕄 :=
  iprop(ptX d L X ∗ ptM d L (rowTo A s (16 * h) (fastMax xr k)) ∗ ptS d L (rowTo B s (16 * h) (fastSum xr k)))

/-- The sixteen blocks that a trip loads: block `t5` of row `k` of group `t4`. -/
def loaded (X : S80x512.Idx → F .f32) (t4 : Fin k0_t4_loop.trips) (t5 : Fin k0_t5_loop.trips) (k : ℕ) : S1x16.Idx → F .f32 :=
  View.readAt (Elt F) (xT).view (Rect.unit (s := S80x512) (k0_off7 t4 t5 (BitVec.ofNat 32 (Fin.ofNat 16 k).val)) S1x16.size
    (k0_off7_inb t4 t5 (Fin.ofNat 16 k))).toLoadRect X

/-- Only the sixteen first values count. -/
theorem tree_mod (op : F .f32 → F .f32 → F .f32) (f : ℕ → F .f32) : (tree op fun k => f (k % 16)) = tree op f := rfl

theorem t5_trip (hX : HoldsX X xr n) (t4 : Fin k0_t4_loop.trips) (v26 v28 : BitVec 32) (hw1 : k0_chk1 v26 v28) (v29 : BitVec 32)
    (h1 : k0_cond1 v26 v28 = 1#1) {s : ℕ} (hv : v26.toNat = s) (hs : s < 64)
    (t5 : Fin k0_t5_loop.trips) (A B : S64x512.Idx → F .f32) :
    fastInv d L X xr (n + 16 * t4.val) s A B t5.val ()
      ⊢ wp frame (wpE (defs₀ (F := F)) 𝒱₀ (V d (cV L) (jV L)) none) Set.univ
        (k0_t5_body L xH (Memref.isWhole_whole _) gH (Memref.isWhole_whole _) pmH (Memref.isWhole_whole _) psH (Memref.isWhole_whole _)
          pcH (Memref.isWhole_whole _) xT (Memref.isWhole_whole _) gT (Memref.isWhole_whole _) mT (Memref.isWhole_whole _)
          sT (Memref.isWhole_whole _) cT (Memref.isWhole_whole _) cc0_scoped0 cc0_scoped1 cc0_scoped2 cc0_scoped3 cc0_scoped4
          cc0_scoped5 cc0_scoped6 t4 v26 v28 hw1 v29 h1 t5 ())
        fun u => (fastInv d L X xr (n + 16 * t4.val) s A B (t5.val + 1) u : sProp 𝕄) := by
  subst hv
  have h5 : t5.val < 32 := t5.isLt
  have h4 : t4.val < 5 := t4.isLt
  have eX (l : Fin 16) : (fun k => loaded X t4 t5 k (lane l)) = fun k => xr (n + 16 * t4.val + k % 16) ⟨16 * t5.val + l.val, by omega⟩ := by
    funext k
    have hk : (Fin.ofNat 16 k).val = k % 16 := rfl
    refine (congrArg X (block_emb80 (inb := k0_off7_inb t4 t5 (Fin.ofNat 16 k)) (k0_off7_eq t4 t5 (Fin.ofNat 16 k)) (by omega) h5 l)).trans ?_
    refine (hX ⟨16 * t4.val + k % 16, by omega⟩ _).trans ?_
    rw [← Nat.add_assoc]
  have eA (A' : S64x512.Idx → F .f32) (l : Fin 16) := congrArg A' (block_emb64 (inb := k0_off8_inb v26 v28 hw1 t5 h1) (off8_eq v26 t5) hs h5 l)
  unfold k0_t5_body fastInv
  simp only [k0_part1_eq_skeleton, k0_part2_eq_skeleton]
  unfold k0_part1_skel k0_part2_skel
  iintro ⟨HX, HA, HB⟩
  sl_exec
  sl_step
  rw [writesM A hs h5 _ (off8_eq v26 t5) _ ?hM, writesS B hs h5 _ (off8_eq v26 t5) _ ?hS]
  case hM =>
    exact fun l => (pay44_17_apply (loaded X t4 t5) _ l).trans
      (congrArg₂ FloatOps.maximumf ((eA _ l).trans (rowTo_at A hs h5 _ l)) ((congrArg (tree FloatOps.maximumf) (eX l)).trans (tree_mod _ fun k => xr (n + 16 * t4.val + k) ⟨16 * t5.val + l.val, by omega⟩)))
  case hS =>
    exact fun l => (pay46_apply (loaded X t4 t5) _ l).trans
      (congrArg₂ FloatOps.addf ((eA _ l).trans (rowTo_at B hs h5 _ l)) ((congrArg (tree FloatOps.addf) (eX l)).trans (tree_mod _ fun k => xr (n + 16 * t4.val + k) ⟨16 * t5.val + l.val, by omega⟩)))
  isplitl [HX]; · iexact HX
  isplitl [HA]; · iexact HA
  iexact HB

end Cert.Proof.Pool

end
-- ==== Proof.Group.lean ====
module

public import proofs.«01_k».proof.Proof.Trips

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "xH" => (Memref.whole Cert.KernelIdeal.main_arg0_scv : Memref Cert.KernelIdeal.sig Kind.scVector Space.hbm Cert.KernelIdeal.S50000x512 EltTy.f32)
local notation "gH" => (Memref.whole Cert.KernelIdeal.main_arg1_scv : Memref Cert.KernelIdeal.sig Kind.scVector Space.hbm Cert.KernelIdeal.S50000 EltTy.i32)
local notation "pmH" => (Memref.whole Cert.KernelIdeal.main_v0_0_scv : Memref Cert.KernelIdeal.sig Kind.scVector Space.hbm Cert.KernelIdeal.S32x64x512 EltTy.f32)
local notation "psH" => (Memref.whole Cert.KernelIdeal.main_v0_1_scv : Memref Cert.KernelIdeal.sig Kind.scVector Space.hbm Cert.KernelIdeal.S32x64x512 EltTy.f32)
local notation "pcH" => (Memref.whole Cert.KernelIdeal.main_v0_2_scv : Memref Cert.KernelIdeal.sig Kind.scVector Space.hbm Cert.KernelIdeal.S32x64x16 EltTy.f32)
local notation "xT" => (Memref.whole Cert.KernelIdeal.cc0_scratch0 : Memref Cert.KernelIdeal.sig Kind.scVector Space.vmem Cert.KernelIdeal.S80x512 EltTy.f32)
local notation "gT" => (Memref.whole Cert.KernelIdeal.cc0_scratch1 : Memref Cert.KernelIdeal.sig Kind.scVector Space.vmem Cert.KernelIdeal.S96 EltTy.i32)
local notation "mT" => (Memref.whole Cert.KernelIdeal.cc0_scratch2 : Memref Cert.KernelIdeal.sig Kind.scVector Space.vmem Cert.KernelIdeal.S64x512 EltTy.f32)
local notation "sT" => (Memref.whole Cert.KernelIdeal.cc0_scratch3 : Memref Cert.KernelIdeal.sig Kind.scVector Space.vmem Cert.KernelIdeal.S64x512 EltTy.f32)
local notation "cT" => (Memref.whole Cert.KernelIdeal.cc0_scratch4 : Memref Cert.KernelIdeal.sig Kind.scVector Space.vmem Cert.KernelIdeal.S64x16 EltTy.f32)

variable (d : Dev nD) (L : grid0.Coords)
variable {X : S80x512.Idx → F .f32} {G : S96.Idx → BitVec 32} {xr : ℕ → Fin 512 → F .f32} {ir : ℕ → BitVec 32} {n : ℕ}

/-! ## Which way a group goes -/

theorem widened (x : Bool) : IntOp.cmpi .ne (BitVec.setWidth 32 (BitVec.ofBool x)) 0#32 = 1#1 ↔ x = true := by
  revert x; decide

theorem cond1_iff (a b : BitVec 32) : k0_cond1 a b = 1#1 ↔ a = b :=
  (widened (a == b)).trans beq_iff_eq

theorem cond2_iff (a b : BitVec 32) : k0_cond2 a b = 1#1 ↔ a ≠ b :=
  (widened (a != b)).trans bne_iff_ne

theorem chk1_of (v26 v28 : BitVec 32) (h : v26.toNat < 64) : k0_chk1 v26 v28 := by
  refine ⟨fun _ a => ?_, fun t _ a => ?_⟩
  · rw [off6_eq]; fin_cases a
    · show v26.toNat + 1 ≤ 64; omega
    · show 0 + 16 ≤ 16; omega
  · rw [off8_eq]; have : t.val < 32 := t.isLt; fin_cases a
    · show v26.toNat + 1 ≤ 64; omega
    · show 16 * t.val + 16 ≤ 512; omega

theorem trips5 : Scf.trips k0_t5_loop.lb k0_t5_loop.ub k0_t5_loop.st = 32 := by decide
theorem trips6 : Scf.trips k0_t6_loop.lb k0_t6_loop.ub k0_t6_loop.st = 16 := by decide

/-- What the loop over a group's rows keeps. -/
def rowsInv (X : S80x512.Idx → F .f32) (G : S96.Idx → BitVec 32) (xr : ℕ → Fin 512 → F .f32) (ir : ℕ → BitVec 32) (k : ℕ) (st : St F)
    (h : ℕ) (_ : Unit) : sProp 𝕄 := heldAt d L X G (rows xr ir k h st)

theorem t4_trip (hX : HoldsX X xr n) (hG : HoldsG G ir n) (hR : ∀ k, (ir k).toNat < 64) (t4 : Fin k0_t4_loop.trips) (st : St F) :
    heldAt d L X G st
      ⊢ wp frame (wpE (defs₀ (F := F)) 𝒱₀ (V d (cV L) (jV L)) none) Set.univ
        (k0_t4_body L xH (Memref.isWhole_whole _) gH (Memref.isWhole_whole _) pmH (Memref.isWhole_whole _) psH (Memref.isWhole_whole _)
          pcH (Memref.isWhole_whole _) xT (Memref.isWhole_whole _) gT (Memref.isWhole_whole _) mT (Memref.isWhole_whole _)
          sT (Memref.isWhole_whole _) cT (Memref.isWhole_whole _) cc0_scoped0 cc0_scoped1 cc0_scoped2 cc0_scoped3 cc0_scoped4
          cc0_scoped5 cc0_scoped6 t4 ())
        fun _ => (heldAt d L X G (grp xr ir (n + 16 * t4.val) st) : sProp 𝕄) := by
  have h4 : t4.val < 5 := t4.isLt
  have eG (l : Fin 16) : View.readAt (Elt F) (gT).view (Rect.unit (s := S96) (k0_off5 t4) S16.size (k0_off5_inb t4)).toLoadRect G (lane1 l)
      = ir (n + 16 * t4.val + l.val) :=
    (congrArg G (window_emb (k0_off5_eq t4) l (show 16 * t4.val + l.val < 96 by omega))).trans
      ((hG ⟨16 * t4.val + l.val, by omega⟩).trans (congrArg ir (by simp [Nat.add_assoc])))
  have e0 := (first_eq (F := F) _).trans (show _ = ir (n + 16 * t4.val) from eG 0)
  have e1 := (last_eq (F := F) _).trans (show _ = ir (n + 16 * t4.val + 15) from eG 15)
  have hs := hR (n + 16 * t4.val)
  unfold k0_t4_body heldAt
  iintro ⟨HX, HG, HA, HB, HC⟩
  by_cases hc : ir (n + 16 * t4.val) = ir (n + 16 * t4.val + 15)
  · have hg : grp xr ir (n + 16 * t4.val) st = fast xr ir (n + 16 * t4.val) st := if_pos hc
    rw [hg]
    have h1 := (cond1_iff _ _).mpr ((e0.trans hc).trans e1.symm)
    have h2 := mt (cond2_iff _ _).mp (fun h => h ((e0.trans hc).trans e1.symm))
    sl_exec (disch := exact chk1_of _ _ (lt_of_eq_of_lt (congrArg BitVec.toNat e0) hs))
    sl_for (fastInv d L X xr (n + 16 * t4.val) (ir (n + 16 * t4.val)).toNat st.mx st.sm) $$ [HX HA HB]
    case region =>
      intro k _
      exact t5_trip d L hX t4 _ _ _ _ h1 (congrArg BitVec.toNat e0) hs k st.mx st.sm
    · unfold fastInv
      rw [Nat.mul_zero, rowTo_zero, rowTo_zero]
      isplitl [HX]; · iexact HX
      isplitl [HA]; · iexact HA
      iexact HB
    iintro %_ HI
    unfold fastInv
    icases HI with ⟨HX, HA, HB⟩
    sl_exec
    sl_step
    rw [writesC st.ct hs sixteen ((off6_eq _).trans (by rw [show t4_trip.sl.v26 (F := F) (G := G) t4 = _ from e0])) _ (fun l => (pay43_apply _ l).trans
      (congrArg (FloatOps.addf · sixteen) (congrArg st.ct (block_embC ((off6_eq _).trans (by rw [show t4_trip.sl.v26 (F := F) (G := G) t4 = _ from e0])) hs l)))), trips5]
    isplitl [HX]; · iexact HX
    isplitl [HG]; · iexact HG
    isplitl [HA]; · iexact HA
    isplitl [HB]; · iexact HB
    iexact HC
  · have hg : grp xr ir (n + 16 * t4.val) st = rows xr ir (n + 16 * t4.val) 16 st := if_neg hc
    rw [hg]
    have h1 := mt (cond1_iff _ _).mp (fun h => hc ((e0.symm.trans h).trans e1))
    have h2 := (cond2_iff _ _).mpr (fun h => hc ((e0.symm.trans h).trans e1))
    sl_exec (disch := exact chk1_of _ _ (lt_of_eq_of_lt (congrArg BitVec.toNat e0) hs))
    sl_for (rowsInv d L X G xr ir (n + 16 * t4.val) st) $$ [HX HG HA HB HC]
    case region =>
      intro k _
      have := t6_trip d L hX hG hR t4 _ _ h2 k (rows xr ir (n + 16 * t4.val) k.val st)
      rw [← Nat.add_assoc] at this
      exact this
    · unfold rowsInv heldAt
      isplitl [HX]; · iexact HX
      isplitl [HG]; · iexact HG
      isplitl [HA]; · iexact HA
      isplitl [HB]; · iexact HB
      iexact HC
    iintro %_ HI
    unfold rowsInv
    rw [trips6]
    sl_exec
    sl_step
    unfold heldAt
    iexact HI

end Cert.Proof.Pool

end
-- ==== Proof.Clear.lean ====
module

public import proofs.«01_k».proof.Proof.Group

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "xH" => (Memref.whole Cert.KernelIdeal.main_arg0_scv : Memref Cert.KernelIdeal.sig Kind.scVector Space.hbm Cert.KernelIdeal.S50000x512 EltTy.f32)
local notation "gH" => (Memref.whole Cert.KernelIdeal.main_arg1_scv : Memref Cert.KernelIdeal.sig Kind.scVector Space.hbm Cert.KernelIdeal.S50000 EltTy.i32)
local notation "pmH" => (Memref.whole Cert.KernelIdeal.main_v0_0_scv : Memref Cert.KernelIdeal.sig Kind.scVector Space.hbm Cert.KernelIdeal.S32x64x512 EltTy.f32)
local notation "psH" => (Memref.whole Cert.KernelIdeal.main_v0_1_scv : Memref Cert.KernelIdeal.sig Kind.scVector Space.hbm Cert.KernelIdeal.S32x64x512 EltTy.f32)
local notation "pcH" => (Memref.whole Cert.KernelIdeal.main_v0_2_scv : Memref Cert.KernelIdeal.sig Kind.scVector Space.hbm Cert.KernelIdeal.S32x64x16 EltTy.f32)
local notation "xT" => (Memref.whole Cert.KernelIdeal.cc0_scratch0 : Memref Cert.KernelIdeal.sig Kind.scVector Space.vmem Cert.KernelIdeal.S80x512 EltTy.f32)
local notation "gT" => (Memref.whole Cert.KernelIdeal.cc0_scratch1 : Memref Cert.KernelIdeal.sig Kind.scVector Space.vmem Cert.KernelIdeal.S96 EltTy.i32)
local notation "mT" => (Memref.whole Cert.KernelIdeal.cc0_scratch2 : Memref Cert.KernelIdeal.sig Kind.scVector Space.vmem Cert.KernelIdeal.S64x512 EltTy.f32)
local notation "sT" => (Memref.whole Cert.KernelIdeal.cc0_scratch3 : Memref Cert.KernelIdeal.sig Kind.scVector Space.vmem Cert.KernelIdeal.S64x512 EltTy.f32)
local notation "cT" => (Memref.whole Cert.KernelIdeal.cc0_scratch4 : Memref Cert.KernelIdeal.sig Kind.scVector Space.vmem Cert.KernelIdeal.S64x16 EltTy.f32)

/-! ## Clearing the accumulators -/

/-- `A` with its first `t` blocks of sixteen columns set to `z`, the blocks counted row by row. -/
def fillTo (A : S64x512.Idx → F .f32) (t : ℕ) (z : F .f32) : S64x512.Idx → F .f32 :=
  fun y => if 32 * (y 0).val + (y 1).val / 16 < t then z else A y

/-- The counts with the first `t` rows set to `z`. -/
def fillC (C : S64x16.Idx → F .f32) (t : ℕ) (z : F .f32) : S64x16.Idx → F .f32 :=
  fun y => if (y 0).val < t then z else C y

omit [FloatOps F] in
theorem fillTo_zero (A : S64x512.Idx → F .f32) (z : F .f32) : fillTo A 0 z = A := by funext y; simp [fillTo]
omit [FloatOps F] in
theorem fillC_zero (C : S64x16.Idx → F .f32) (z : F .f32) : fillC C 0 z = C := by funext y; simp [fillC]
omit [FloatOps F] in
theorem fillTo_all (A : S64x512.Idx → F .f32) (z : F .f32) : fillTo A 2048 z = fun _ => z := by
  funext y
  have h0 : (y 0).val < 64 := (y 0).isLt
  have h1 : (y 1).val < 512 := (y 1).isLt
  exact if_pos (by omega)
omit [FloatOps F] in
theorem fillC_all (C : S64x16.Idx → F .f32) (z : F .f32) : fillC C 64 z = fun _ => z := by
  funext y; exact if_pos (y 0).isLt

omit [FloatOps F] in
theorem writes_fill {κ : Kind} {sp : Space} (v : View sig κ sp S64x512 .f32) (f : v.ty.Contents (Elt F)) (A : S64x512.Idx → F .f32)
    {t : ℕ} (ht : t < 2048) (z : F .f32) {off : Fin 2 → ℕ}
    {inb : ∀ a, off a + S1x16.size a ≤ S64x512.size a} (ho : off = ![t / 32, 16 * (t % 32)]) (w : S1x16.Idx → F .f32)
    (hf : v.read (Elt F) f = fillTo A t z) (hw : ∀ l : Fin 16, w (lane l) = z) :
    v.read (Elt F) (v.writes (Elt F) f [⟨Rect.unit (s := S64x512) off S1x16.size inb, w⟩]) = fillTo A (t + 1) z := by
  funext y
  have b0 : (y 0).val < 64 := (y 0).isLt
  have b1 : (y 1).val < 512 := (y 1).isLt
  by_cases hy : 32 * (y 0).val + (y 1).val / 16 = t
  · have hs : t / 32 < 64 := by omega
    have hh : t % 32 < 32 := by omega
    have hy' : y = at64 ⟨t / 32, hs⟩ ⟨16 * (t % 32) + ((y 1).val - 16 * (t % 32)), by omega⟩ := by
      funext a; apply Fin.ext; fin_cases a
      · show (y 0).val = t / 32; omega
      · show (y 1).val = 16 * (t % 32) + ((y 1).val - 16 * (t % 32)); omega
    have hl : (y 1).val - 16 * (t % 32) < 16 := by omega
    refine (View.read_writes_cons_hit v f (Rect.unit (s := S64x512) off S1x16.size inb) w [] (lane ⟨(y 1).val - 16 * (t % 32), hl⟩) y
      ((block_emb64 ho hs hh _).trans hy'.symm)).trans ((hw _).trans ?_)
    exact (if_pos (by omega)).symm
  · rw [View.read_writes_cons_miss v f _ [] y (fun hm => hy ?_)]
    · show v.read (Elt F) f y = _
      rw [hf]
      simp only [fillTo]
      by_cases h1 : 32 * (y 0).val + (y 1).val / 16 < t
      · rw [if_pos h1, if_pos (by omega)]
      · rw [if_neg h1, if_neg (by omega)]
    · subst ho
      obtain ⟨j0, hj0, e0⟩ := (LoadRect.mem_set _).mp hm 0
      obtain ⟨j1, hj1, e1⟩ := (LoadRect.mem_set _).mp hm 1
      change j0 < 1 at hj0; change j1 < 16 at hj1
      change (y 0).val = t / 32 + 1 * j0 at e0; change (y 1).val = 16 * (t % 32) + 1 * j1 at e1
      omega

omit [FloatOps F] in
theorem fillM (A : S64x512.Idx → F .f32) {t : ℕ} (ht : t < 2048) (z : F .f32) {off : Fin 2 → ℕ}
    {inb : ∀ a, off a + S1x16.size a ≤ S64x512.size a} (ho : off = ![t / 32, 16 * (t % 32)]) (w : S1x16.Idx → F .f32)
    (hw : ∀ l : Fin 16, w (lane l) = z) :
    (mT).view.writes (Elt F) (fillTo A t z) [⟨Rect.unit (s := S64x512) off S1x16.size inb, w⟩] = fillTo A (t + 1) z :=
  writes_fill (F := F) (mT).view _ A ht z ho w rfl hw

omit [FloatOps F] in
theorem fillS (A : S64x512.Idx → F .f32) {t : ℕ} (ht : t < 2048) (z : F .f32) {off : Fin 2 → ℕ}
    {inb : ∀ a, off a + S1x16.size a ≤ S64x512.size a} (ho : off = ![t / 32, 16 * (t % 32)]) (w : S1x16.Idx → F .f32)
    (hw : ∀ l : Fin 16, w (lane l) = z) :
    (sT).view.writes (Elt F) (fillTo A t z) [⟨Rect.unit (s := S64x512) off S1x16.size inb, w⟩] = fillTo A (t + 1) z :=
  writes_fill (F := F) (sT).view _ A ht z ho w rfl hw

omit [FloatOps F] in
theorem writes_fillC {κ : Kind} {sp : Space} (v : View sig κ sp S64x16 .f32) (f : v.ty.Contents (Elt F)) (C : S64x16.Idx → F .f32)
    {t : ℕ} (ht : t < 64) (z : F .f32) {off : Fin 2 → ℕ}
    {inb : ∀ a, off a + S1x16.size a ≤ S64x16.size a} (ho : off = ![t, 0]) (w : S1x16.Idx → F .f32)
    (hf : v.read (Elt F) f = fillC C t z) (hw : ∀ l : Fin 16, w (lane l) = z) :
    v.read (Elt F) (v.writes (Elt F) f [⟨Rect.unit (s := S64x16) off S1x16.size inb, w⟩]) = fillC C (t + 1) z := by
  funext y
  by_cases h0 : (y 0).val = t
  · have hy : y = atC ⟨t, ht⟩ (y 1) := by
      funext a; apply Fin.ext; fin_cases a
      · exact h0
      · rfl
    refine (View.read_writes_cons_hit v f (Rect.unit (s := S64x16) off S1x16.size inb) w [] (lane (y 1)) y
      ((block_embC ho ht _).trans hy.symm)).trans ((hw (y 1)).trans ?_)
    exact (if_pos (by omega)).symm
  · rw [View.read_writes_cons_miss v f _ [] y (fun hm => h0 ?_)]
    · show v.read (Elt F) f y = _
      rw [hf]
      simp only [fillC]
      by_cases h1 : (y 0).val < t
      · rw [if_pos h1, if_pos (by omega)]
      · rw [if_neg h1, if_neg (by omega)]
    · subst ho
      obtain ⟨j0, hj0, e0⟩ := (LoadRect.mem_set _).mp hm 0
      change j0 < 1 at hj0
      change (y 0).val = t + 1 * j0 at e0
      omega

omit [FloatOps F] in
theorem fillCt (C : S64x16.Idx → F .f32) {t : ℕ} (ht : t < 64) (z : F .f32) {off : Fin 2 → ℕ}
    {inb : ∀ a, off a + S1x16.size a ≤ S64x16.size a} (ho : off = ![t, 0]) (w : S1x16.Idx → F .f32)
    (hw : ∀ l : Fin 16, w (lane l) = z) :
    (cT).view.writes (Elt F) (fillC C t z) [⟨Rect.unit (s := S64x16) off S1x16.size inb, w⟩] = fillC C (t + 1) z :=
  writes_fillC (F := F) (cT).view _ C ht z ho w rfl hw

variable (d : Dev nD) (L : grid0.Coords)

/-- No maximum yet, and no sum or count yet. -/
def negInf : F .f32 := FloatOps.ofBits .f32 0xFF800000#32
def zero : F .f32 := FloatOps.ofBits .f32 0x00000000#32

/-- The maxima and sums while they are cleared, a block a trip. -/
def clearInv (A B : S64x512.Idx → F .f32) (t : ℕ) (_ : Unit) : sProp 𝕄 :=
  iprop(ptM d L (fillTo A t negInf) ∗ ptS d L (fillTo B t zero))

theorem t1_trip (t1 : Fin k0_t1_loop.trips) (A B : S64x512.Idx → F .f32) :
    clearInv d L A B t1.val ()
      ⊢ wp frame (wpE (defs₀ (F := F)) 𝒱₀ (V d (cV L) (jV L)) none) Set.univ
        (k0_t1_body L xH (Memref.isWhole_whole _) gH (Memref.isWhole_whole _) pmH (Memref.isWhole_whole _) psH (Memref.isWhole_whole _)
          pcH (Memref.isWhole_whole _) xT (Memref.isWhole_whole _) gT (Memref.isWhole_whole _) mT (Memref.isWhole_whole _)
          sT (Memref.isWhole_whole _) cT (Memref.isWhole_whole _) cc0_scoped0 cc0_scoped1 cc0_scoped2 cc0_scoped3 cc0_scoped4
          cc0_scoped5 cc0_scoped6 t1 ())
        fun u => (clearInv d L A B (t1.val + 1) u : sProp 𝕄) := by
  have h1 : t1.val < 2048 := t1.isLt
  unfold k0_t1_body clearInv
  iintro ⟨HA, HB⟩
  sl_exec
  sl_step
  rw [fillM A h1 negInf (off1_eq t1) _ (fun l => pay37_apply l), fillS B h1 zero (off1_eq t1) _ (fun l => pay38_apply l)]
  isplitl [HA]; · iexact HA
  iexact HB

/-- The counts while they are cleared, a row a trip. -/
def clearCInv (C : S64x16.Idx → F .f32) (t : ℕ) (_ : Unit) : sProp 𝕄 := ptC d L (fillC C t zero)

theorem t2_trip (t2 : Fin k0_t2_loop.trips) (C : S64x16.Idx → F .f32) :
    clearCInv d L C t2.val ()
      ⊢ wp frame (wpE (defs₀ (F := F)) 𝒱₀ (V d (cV L) (jV L)) none) Set.univ
        (k0_t2_body L xH (Memref.isWhole_whole _) gH (Memref.isWhole_whole _) pmH (Memref.isWhole_whole _) psH (Memref.isWhole_whole _)
          pcH (Memref.isWhole_whole _) xT (Memref.isWhole_whole _) gT (Memref.isWhole_whole _) mT (Memref.isWhole_whole _)
          sT (Memref.isWhole_whole _) cT (Memref.isWhole_whole _) cc0_scoped0 cc0_scoped1 cc0_scoped2 cc0_scoped3 cc0_scoped4
          cc0_scoped5 cc0_scoped6 t2 ())
        fun u => (clearCInv d L C (t2.val + 1) u : sProp 𝕄) := by
  have h2 : t2.val < 64 := t2.isLt
  unfold k0_t2_body clearCInv
  iintro HC
  sl_exec
  sl_step
  rw [fillCt C h2 zero (k0_off2_eq t2) _ (fun l => pay39_apply l)]
  iexact HC

theorem trips1 : Scf.trips k0_t1_loop.lb k0_t1_loop.ub k0_t1_loop.st = 2048 := by decide
theorem trips2 : Scf.trips k0_t2_loop.lb k0_t2_loop.ub k0_t2_loop.st = 64 := by decide

end Cert.Proof.Pool

end
-- ==== Proof.Chunk.lean ====
module

public import proofs.«01_k».proof.Proof.Clear

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "xH" => (Memref.whole Cert.KernelIdeal.main_arg0_scv : Memref Cert.KernelIdeal.sig Kind.scVector Space.hbm Cert.KernelIdeal.S50000x512 EltTy.f32)
local notation "gH" => (Memref.whole Cert.KernelIdeal.main_arg1_scv : Memref Cert.KernelIdeal.sig Kind.scVector Space.hbm Cert.KernelIdeal.S50000 EltTy.i32)
local notation "pmH" => (Memref.whole Cert.KernelIdeal.main_v0_0_scv : Memref Cert.KernelIdeal.sig Kind.scVector Space.hbm Cert.KernelIdeal.S32x64x512 EltTy.f32)
local notation "psH" => (Memref.whole Cert.KernelIdeal.main_v0_1_scv : Memref Cert.KernelIdeal.sig Kind.scVector Space.hbm Cert.KernelIdeal.S32x64x512 EltTy.f32)
local notation "pcH" => (Memref.whole Cert.KernelIdeal.main_v0_2_scv : Memref Cert.KernelIdeal.sig Kind.scVector Space.hbm Cert.KernelIdeal.S32x64x16 EltTy.f32)
local notation "xT" => (Memref.whole Cert.KernelIdeal.cc0_scratch0 : Memref Cert.KernelIdeal.sig Kind.scVector Space.vmem Cert.KernelIdeal.S80x512 EltTy.f32)
local notation "gT" => (Memref.whole Cert.KernelIdeal.cc0_scratch1 : Memref Cert.KernelIdeal.sig Kind.scVector Space.vmem Cert.KernelIdeal.S96 EltTy.i32)
local notation "mT" => (Memref.whole Cert.KernelIdeal.cc0_scratch2 : Memref Cert.KernelIdeal.sig Kind.scVector Space.vmem Cert.KernelIdeal.S64x512 EltTy.f32)
local notation "sT" => (Memref.whole Cert.KernelIdeal.cc0_scratch3 : Memref Cert.KernelIdeal.sig Kind.scVector Space.vmem Cert.KernelIdeal.S64x512 EltTy.f32)
local notation "cT" => (Memref.whole Cert.KernelIdeal.cc0_scratch4 : Memref Cert.KernelIdeal.sig Kind.scVector Space.vmem Cert.KernelIdeal.S64x16 EltTy.f32)

variable (d : Dev nD) (L : grid0.Coords)

/-! ## One chunk of eighty rows -/

theorem trips4 : Scf.trips k0_t4_loop.lb k0_t4_loop.ub k0_t4_loop.st = 5 := by decide
theorem trips3 (L : grid0.Coords) : Scf.trips (k0_t3_loop L).lb (k0_t3_loop L).ub (k0_t3_loop L).st = nChunks (wid L) := by
  revert L; decide +kernel
theorem trips8 (L : grid0.Coords) : Scf.trips (k0_t8_loop L).lb (k0_t8_loop L).ub (k0_t8_loop L).st = 0 := by
  revert L; decide +kernel

theorem wid_lt (L : grid0.Coords) : wid L < 32 := by
  have h0 : (L 0).val < 2 := (L 0).isLt
  have h1 : (L 1).val < 16 := (L 1).isLt
  unfold wid; omega

/-- The tile's share of the rows and of the segment numbers, as it addresses them. -/
abbrev ptx (q : PosShare TreeShare) (x : S50000x512.Idx → F .f32) : sProp 𝕄 := (xH).view.loc (V d (cV L) (jV L)) ↦{q} x
abbrev ptg (q : PosShare TreeShare) (g : S50000.Idx → BitVec 32) : sProp 𝕄 := (gH).view.loc (V d (cV L) (jV L)) ↦{q} g

/-- What the loop over a tile's chunks keeps: after `t` of them the accumulators hold `5 * t` groups. -/
def chunkInv (q : PosShare TreeShare) (x : S50000x512.Idx → F .f32) (g : S50000.Idx → BitVec 32) (O : CellTallies nD τ sig (HIx 1))
    (W : Waits sig (HIx 1)) (t : ℕ) (_ : Unit) : sProp 𝕄 :=
  iprop(Transfers.MayWaits (V d (cV L) (jV L)) (default : HIx 1) O ∗ ptx d L q x ∗ ptg d L q g
    ∗ (∃ X G, heldAt d L X G (grps (rowOf x) (segOf g) (80 * firstChunk (wid L)) (5 * t) st0))
    ∗ semVal (V d (cV L) (jV L), SemLoc.dma cc0_scoped0.sem) 0 ∗ semVal (V d (cV L) (jV L), SemLoc.dma cc0_scoped1.sem) 0
    ∗ ∃ W', ⌜∀ p ∈ W', p ∈ W ∨ p.2 = none⌝ ∗ owes (V d (cV L) (jV L)) O W')

/-- What the loop over a chunk's groups keeps. -/
def groupInv (X : S80x512.Idx → F .f32) (G : S96.Idx → BitVec 32) (xr : ℕ → Fin 512 → F .f32) (ir : ℕ → BitVec 32) (n t : ℕ)
    (h : ℕ) (_ : Unit) : sProp 𝕄 := heldAt d L X G (grps xr ir n (5 * t + h) st0)

omit [FloatOps F] in
theorem writes_landed80 (f : (xT).view.ty.Contents (Elt F)) (w : S80x512.Idx → F .f32) :
    (xT).view.writes (Elt F) f [⟨Rect.whole cc0_scratch0.ty.shape, w⟩] = w := by
  have h := View.read_writes_whole (Val := Elt F) (xT).view f w
  exact (View.read_whole (Val := Elt F) cc0_scratch0 _).symm.trans h

omit [FloatOps F] in
theorem landed80 (f : (xT).view.ty.Contents (Elt F)) (w : S80x512.Idx → F .f32) {xr : ℕ → Fin 512 → F .f32} {n : ℕ}
    (hw : ∀ (r : Fin 80) (c : Fin 512), w (at80 r c) = xr (n + r.val) c) :
    HoldsX ((xT).view.writes (Elt F) f [⟨Rect.whole cc0_scratch0.ty.shape, w⟩]) xr n :=
  fun r c => (congrFun (writes_landed80 f w) (at80 r c)).trans (hw r c)

/-- The index of the first eighty segment numbers. -/
abbrev at80g (r : Fin 80) : S80.Idx := fun | 0 => r

omit [FloatOps F] in
theorem read_landed96 {κ : Kind} {sp : Space} (v : View sig κ sp S96 .i32) (f : v.ty.Contents (Elt F)) (w : S80.Idx → BitVec 32) (r : Fin 80) :
    v.read (Elt F) (v.writes (Elt F) f [⟨Rect.unit (s := S96) ![0] S80.size inb_S96_S80_0, w⟩]) (at96 ⟨r.val, by omega⟩) = w (at80g r) :=
  View.read_writes_cons_hit v f (Rect.unit (s := S96) ![0] S80.size inb_S96_S80_0) w [] (at80g r) _
    (by funext a; apply Fin.ext; fin_cases a; show 0 + 1 * r.val = r.val; omega)

omit [FloatOps F] in
theorem landed96 (f : S96.Idx → BitVec 32) (w : S80.Idx → BitVec 32) {ir : ℕ → BitVec 32} {n : ℕ}
    (hw : ∀ r : Fin 80, w (at80g r) = ir (n + r.val)) :
    HoldsG ((gT).view.writes (Elt F) f [⟨Rect.unit (s := S96) ![0] S80.size inb_S96_S80_0, w⟩]) ir n :=
  fun r => (read_landed96 (F := F) (gT).view f w r).trans (hw r)

theorem firstChunk_eq (L : grid0.Coords) : 80 * firstChunk (wid L) = 3040 * (L 1).val + 1520 * (L 0).val + 80 * (min (2 * (L 1).val + (L 0).val) 17) := by
  unfold firstChunk wid; omega

theorem chunk_lt (L : grid0.Coords) (t3 : Fin (k0_t3_loop L).trips) (r : Fin 80) : 80 * firstChunk (wid L) + 80 * t3.val + r.val < 50000 := by
  have ht : t3.val < nChunks (wid L) := lt_of_lt_of_eq t3.isLt (trips3 L)
  have hw := wid_lt L
  unfold nChunks at ht; unfold firstChunk
  split at ht <;> omega

theorem t3_trip (q : PosShare TreeShare) (x : S50000x512.Idx → F .f32) (g : S50000.Idx → BitVec 32) (hR : ∀ j, (g j).toNat < 64)
    (O : CellTallies nD τ sig (HIx 1)) (W : Waits sig (HIx 1)) (t3 : Fin (k0_t3_loop L).trips) :
    chunkInv d L q x g O W t3.val ()
      ⊢ wp frame (wpE (defs₀ (F := F)) 𝒱₀ (V d (cV L) (jV L)) none) Set.univ
        (k0_t3_body L xH (Memref.isWhole_whole _) gH (Memref.isWhole_whole _) pmH (Memref.isWhole_whole _) psH (Memref.isWhole_whole _)
          pcH (Memref.isWhole_whole _) xT (Memref.isWhole_whole _) gT (Memref.isWhole_whole _) mT (Memref.isWhole_whole _)
          sT (Memref.isWhole_whole _) cT (Memref.isWhole_whole _) cc0_scoped0 cc0_scoped1 cc0_scoped2 cc0_scoped3 cc0_scoped4
          cc0_scoped5 cc0_scoped6 t3 ())
        fun u => (chunkInv d L q x g O W (t3.val + 1) u : sProp 𝕄) := by
  unfold k0_t3_body chunkInv
  iintro ⟨#Hmw, Hx, Hg, ⟨%X, %G, HI⟩, HsA, HsB, %W', %hW', HO⟩
  unfold heldAt
  icases HI with ⟨HX, HG, HA, HB, HC⟩
  sl_exec (disch := exact View.amount_pos _ _ (by decide))
  have hX := landed80 (F := F) (xT).view.junk (t3_trip.sl.dma0 L x t3) (xr := rowOf x) (n := 80 * firstChunk (wid L) + 80 * t3.val) fun r c => by
    refine congrArg x ?_
    funext a; apply Fin.ext
    fin_cases a
    · show k0_off3 L t3 0 + 1 * r.val = (80 * firstChunk (wid L) + 80 * t3.val + r.val) % 50000
      rw [k0_off3_eq, Nat.mod_eq_of_lt (chunk_lt L t3 r), firstChunk_eq]
      simp
    · show k0_off3 L t3 1 + 1 * c.val = c.val
      rw [k0_off3_eq]; simp
  have hG := landed96 (F := F) G (t3_trip.sl.dma0_1 (F := F) L g t3) (ir := segOf g) (n := 80 * firstChunk (wid L) + 80 * t3.val) fun r => by
    refine congrArg g ?_
    funext a; apply Fin.ext
    fin_cases a
    · show k0_off4 L t3 0 + 1 * r.val = (80 * firstChunk (wid L) + 80 * t3.val + r.val) % 50000
      rw [k0_off4_eq, Nat.mod_eq_of_lt (chunk_lt L t3 r), firstChunk_eq]
      simp
  have e4 (h : ℕ) : 80 * firstChunk (wid L) + 80 * t3.val + 16 * h = 80 * firstChunk (wid L) + 16 * (5 * t3.val + h) := by omega
  sl_for (groupInv d L _ _ (rowOf x) (segOf g) (80 * firstChunk (wid L)) t3.val) $$ [HX HG HA HB HC]
  case region =>
    intro k _
    have := t4_trip d L hX hG (fun k => hR _) k (grps (rowOf x) (segOf g) (80 * firstChunk (wid L)) (5 * t3.val + k.val) st0)
    rw [e4] at this
    exact this
  · unfold groupInv heldAt
    isplitl [HX]; · iexact HX
    isplitl [HG]; · iexact HG
    isplitl [HA]; · iexact HA
    isplitl [HB]; · iexact HB
    iexact HC
  iintro %_ HI
  unfold groupInv
  rw [trips4]
  sl_exec
  sl_step
  isplitr; · iexact Hmw
  isplitl [Hx]; · iexact Hx
  isplitl [Hg]; · iexact Hg
  isplitl [HI]
  · iexists _, _
    unfold heldAt
    rw [show 5 * (t3.val + 1) = 5 * t3.val + 5 from rfl]
    iexact HI
  isplitl [HsA]; · iexact HsA
  isplitl [HsB]; · iexact HsB
  iexists (insert (SemLoc.dma cc0_scoped1.sem, (default : HIx 1)) (insert (SemLoc.dma cc0_scoped0.sem, (default : HIx 1)) W'))
  isplitr
  · ipureintro; intro p hp
    rcases Finset.mem_insert.mp hp with hp | hp; · exact .inr (hp ▸ rfl)
    rcases Finset.mem_insert.mp hp with hp | hp; · exact .inr (hp ▸ rfl)
    exact hW' p hp
  · iexact HO

end Cert.Proof.Pool

end
-- ==== Proof.Tile.lean ====
module

public import proofs.«01_k».proof.Proof.Chunk
public import Idealize.ShloMosaic.Lib.ShareLeaves

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "xH" => (Memref.whole Cert.KernelIdeal.main_arg0_scv : Memref Cert.KernelIdeal.sig Kind.scVector Space.hbm Cert.KernelIdeal.S50000x512 EltTy.f32)
local notation "gH" => (Memref.whole Cert.KernelIdeal.main_arg1_scv : Memref Cert.KernelIdeal.sig Kind.scVector Space.hbm Cert.KernelIdeal.S50000 EltTy.i32)
local notation "pmH" => (Memref.whole Cert.KernelIdeal.main_v0_0_scv : Memref Cert.KernelIdeal.sig Kind.scVector Space.hbm Cert.KernelIdeal.S32x64x512 EltTy.f32)
local notation "psH" => (Memref.whole Cert.KernelIdeal.main_v0_1_scv : Memref Cert.KernelIdeal.sig Kind.scVector Space.hbm Cert.KernelIdeal.S32x64x512 EltTy.f32)
local notation "pcH" => (Memref.whole Cert.KernelIdeal.main_v0_2_scv : Memref Cert.KernelIdeal.sig Kind.scVector Space.hbm Cert.KernelIdeal.S32x64x16 EltTy.f32)
local notation "xT" => (Memref.whole Cert.KernelIdeal.cc0_scratch0 : Memref Cert.KernelIdeal.sig Kind.scVector Space.vmem Cert.KernelIdeal.S80x512 EltTy.f32)
local notation "gT" => (Memref.whole Cert.KernelIdeal.cc0_scratch1 : Memref Cert.KernelIdeal.sig Kind.scVector Space.vmem Cert.KernelIdeal.S96 EltTy.i32)
local notation "mT" => (Memref.whole Cert.KernelIdeal.cc0_scratch2 : Memref Cert.KernelIdeal.sig Kind.scVector Space.vmem Cert.KernelIdeal.S64x512 EltTy.f32)
local notation "sT" => (Memref.whole Cert.KernelIdeal.cc0_scratch3 : Memref Cert.KernelIdeal.sig Kind.scVector Space.vmem Cert.KernelIdeal.S64x512 EltTy.f32)
local notation "cT" => (Memref.whole Cert.KernelIdeal.cc0_scratch4 : Memref Cert.KernelIdeal.sig Kind.scVector Space.vmem Cert.KernelIdeal.S64x16 EltTy.f32)

variable (d : Dev nD) (L : grid0.Coords)

/-! ## The tile's own cells and buffers -/

abbrev semCell (d : Dev nD) (L : grid0.Coords) (s : DmaSem sig) : GSem nD τ sig := (V d (cV L) (jV L), .dma s)

omit [FloatOps F] in
theorem mem_semCell (s : DmaSem sig) (h : (SemLoc.dma s : SemLoc sig).isScoped .scVector = true) :
    semCell d L s ∈ ownCells (V d (cV L) (jV L)) := (mem_ownCells (g := semCell d L s)).mpr ⟨rfl, h⟩

theorem semCell_ne {s t : DmaSem sig} (h : s ≠ t) : semCell d L s ≠ semCell d L t := fun e => h (by
  have := congrArg Prod.snd e
  simpa using this)

theorem scratch_ne {a b : Ref sig .scVector} (h : a ≠ b) : (Proc.scVector (cV L) (jV L)).devRef a ≠ (Proc.scVector (cV L) (jV L)).devRef b :=
  fun e => h (Proc.devRef_injective _ e)

omit [FloatOps F] in
/-- The seven cells of the kernel's copies are among the tile's own. -/
theorem ownSems0_V :
    (ownSems0 (V d (cV L) (jV L)) : sProp 𝕄)
      = iprop(semVal (semCell d L cc0_scoped0.sem) 0 ∗ semVal (semCell d L cc0_scoped1.sem) 0 ∗ semVal (semCell d L cc0_scoped2.sem) 0 ∗ semVal (semCell d L cc0_scoped3.sem) 0 ∗ semVal (semCell d L cc0_scoped4.sem) 0 ∗ semVal (semCell d L cc0_scoped5.sem) 0 ∗ semVal (semCell d L cc0_scoped6.sem) 0
          ∗ bigSep ((((((((ownCells (V d (cV L) (jV L))).erase (semCell d L cc0_scoped0.sem)).erase (semCell d L cc0_scoped1.sem)).erase (semCell d L cc0_scoped2.sem)).erase (semCell d L cc0_scoped3.sem)).erase (semCell d L cc0_scoped4.sem)).erase (semCell d L cc0_scoped5.sem)).erase (semCell d L cc0_scoped6.sem)) fun c => semVal c 0) := by
  unfold SparseCore.Cfg.ownSems0
  rw [SparseCore.bigSep_erase' ((mem_semCell d L cc0_scoped0.sem (by decide))),
    SparseCore.bigSep_erase' (Finset.mem_erase.mpr ⟨semCell_ne d L (by decide), (mem_semCell d L cc0_scoped1.sem (by decide))⟩),
    SparseCore.bigSep_erase' (Finset.mem_erase.mpr ⟨semCell_ne d L (by decide), Finset.mem_erase.mpr ⟨semCell_ne d L (by decide), (mem_semCell d L cc0_scoped2.sem (by decide))⟩⟩),
    SparseCore.bigSep_erase' (Finset.mem_erase.mpr ⟨semCell_ne d L (by decide), Finset.mem_erase.mpr ⟨semCell_ne d L (by decide), Finset.mem_erase.mpr ⟨semCell_ne d L (by decide), (mem_semCell d L cc0_scoped3.sem (by decide))⟩⟩⟩),
    SparseCore.bigSep_erase' (Finset.mem_erase.mpr ⟨semCell_ne d L (by decide), Finset.mem_erase.mpr ⟨semCell_ne d L (by decide), Finset.mem_erase.mpr ⟨semCell_ne d L (by decide), Finset.mem_erase.mpr ⟨semCell_ne d L (by decide), (mem_semCell d L cc0_scoped4.sem (by decide))⟩⟩⟩⟩),
    SparseCore.bigSep_erase' (Finset.mem_erase.mpr ⟨semCell_ne d L (by decide), Finset.mem_erase.mpr ⟨semCell_ne d L (by decide), Finset.mem_erase.mpr ⟨semCell_ne d L (by decide), Finset.mem_erase.mpr ⟨semCell_ne d L (by decide), Finset.mem_erase.mpr ⟨semCell_ne d L (by decide), (mem_semCell d L cc0_scoped5.sem (by decide))⟩⟩⟩⟩⟩),
    SparseCore.bigSep_erase' (Finset.mem_erase.mpr ⟨semCell_ne d L (by decide), Finset.mem_erase.mpr ⟨semCell_ne d L (by decide), Finset.mem_erase.mpr ⟨semCell_ne d L (by decide), Finset.mem_erase.mpr ⟨semCell_ne d L (by decide), Finset.mem_erase.mpr ⟨semCell_ne d L (by decide), Finset.mem_erase.mpr ⟨semCell_ne d L (by decide), (mem_semCell d L cc0_scoped6.sem (by decide))⟩⟩⟩⟩⟩⟩)]

omit [FloatOps F] in
/-- The five scratch buffers are among the tile's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨scratch_ne L (by decide), (SparseCore.Cfg.mem_ownRefs_of_owner (p := Proc.scVector (cV L) (jV L)) (b := (Proc.scVector (cV L) (jV L)).devRef cc0_scratch1) rfl)⟩),
    SparseCore.bigSep_erase' (Finset.mem_erase.mpr ⟨scratch_ne L (by decide), Finset.mem_erase.mpr ⟨scratch_ne L (by decide), (SparseCore.Cfg.mem_ownRefs_of_owner (p := Proc.scVector (cV L) (jV L)) (b := (Proc.scVector (cV L) (jV L)).devRef cc0_scratch2) rfl)⟩⟩),
    SparseCore.bigSep_erase' (Finset.mem_erase.mpr ⟨scratch_ne L (by decide), Finset.mem_erase.mpr ⟨scratch_ne L (by decide), Finset.mem_erase.mpr ⟨scratch_ne L (by decide), (SparseCore.Cfg.mem_ownRefs_of_owner (p := Proc.scVector (cV L) (jV L)) (b := (Proc.scVector (cV L) (jV L)).devRef cc0_scratch3) rfl)⟩⟩⟩),
    SparseCore.bigSep_erase' (Finset.mem_erase.mpr ⟨scratch_ne L (by decide), Finset.mem_erase.mpr ⟨scratch_ne L (by decide), Finset.mem_erase.mpr ⟨scratch_ne L (by decide), Finset.mem_erase.mpr ⟨scratch_ne L (by decide), (SparseCore.Cfg.mem_ownRefs_of_owner (p := Proc.scVector (cV L) (jV L)) (b := (Proc.scVector (cV L) (jV L)).devRef cc0_scratch4) rfl)⟩⟩⟩⟩)]

/-! ## The arrays the tiles share, and a tile's part of each -/

abbrev xLoc (d : Dev nD) : Loc nD τ sig := (SparseCore.T d).loc main_arg0
abbrev gLoc (d : Dev nD) : Loc nD τ sig := (SparseCore.T d).loc main_arg1
abbrev pmLoc (d : Dev nD) : Loc nD τ sig := (SparseCore.T d).loc main_v0_0
abbrev psLoc (d : Dev nD) : Loc nD τ sig := (SparseCore.T d).loc main_v0_1
abbrev pcLoc (d : Dev nD) : Loc nD τ sig := (SparseCore.T d).loc main_v0_2

theorem pdiv : 32 ∣ S32x64x512.size 0 := ⟨1, rfl⟩
theorem cdiv : 32 ∣ S32x64x16.size 0 := ⟨1, rfl⟩
abbrev prow (w : Fin 32) : Rect S32x64x512 := Rect.part (s := S32x64x512) (a₀ := 0) pdiv w
abbrev crow (w : Fin 32) : Rect S32x64x16 := Rect.part (s := S32x64x16) (a₀ := 0) cdiv w

/-- The number of a tile, below thirty-two. -/
abbrev widF (L : grid0.Coords) : Fin 32 := ⟨wid L, wid_lt L⟩
/-- A tile's share of what every tile reads. -/
abbrev tq (w : Fin 32) : PosShare TreeShare := ShareLeaves.leaf 5 fullShare w

abbrev pmrow (w : Fin 32) (f : Buf (Elt F) (pmLoc d)) : sProp 𝕄 := pmLoc d ↦[(prow w).set]{fullShare} f
abbrev psrow (w : Fin 32) (f : Buf (Elt F) (psLoc d)) : sProp 𝕄 := psLoc d ↦[(prow w).set]{fullShare} f
abbrev pcrow (w : Fin 32) (f : Buf (Elt F) (pcLoc d)) : sProp 𝕄 := pcLoc d ↦[(crow w).set]{fullShare} f

/-- What tile `w` is given: its share of the rows and of the segment numbers, its part of each output. -/
abbrev tileRes (w : Fin 32) (x : Buf (Elt F) (xLoc d)) (g : Buf (Elt F) (gLoc d)) (pm : Buf (Elt F) (pmLoc d)) (ps : Buf (Elt F) (psLoc d))
    (pc : Buf (Elt F) (pcLoc d)) : sProp 𝕄 :=
  iprop((xLoc d ↦{tq w} x) ∗ (gLoc d ↦{tq w} g) ∗ pmrow d w pm ∗ psrow d w ps ∗ pcrow d w pc)

abbrev prowK (L : grid0.Coords) : Rect S32x64x512 := Rect.unit (s := S32x64x512) (k0_off23 L) S1x64x512.size (k0_off23_inb L)
abbrev crowK (L : grid0.Coords) : Rect S32x64x16 := Rect.unit (s := S32x64x16) (k0_off24 L) S1x64x16.size (k0_off24_inb L)
abbrev pmK (L : grid0.Coords) : Memref sig .scVector .hbm S64x512 .f32 := ((pmH).slice (prowK L) (fun _ => rfl)).squeeze S64x512 squeezes_S1x64x512_S64x512
abbrev psK (L : grid0.Coords) : Memref sig .scVector .hbm S64x512 .f32 := ((psH).slice (prowK L) (fun _ => rfl)).squeeze S64x512 squeezes_S1x64x512_S64x512
abbrev pcK (L : grid0.Coords) : Memref sig .scVector .hbm S64x16 .f32 := ((pcH).slice (crowK L) (fun _ => rfl)).squeeze S64x16 squeezes_S1x64x16_S64x16

theorem prowK_eq : prowK L = prow (widF L) := by
  unfold prowK prow Rect.part Rect.block
  congr 1 <;> funext a
  · rw [k0_off23_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]
theorem crowK_eq : crowK L = crow (widF L) := by
  unfold crowK crow Rect.part Rect.block
  congr 1 <;> funext a
  · rw [k0_off24_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

theorem set_pmK : (pmK L).view.set = (prow (widF L)).set := by
  show (((View.whole (main_v0_0_scv : Ref sig .scVector)).slice (prowK L)).reshape S64x512 squeezes_S1x64x512_S64x512.numel_eq).set = _
  rw [View.set_reshape, View.set_slice]
  exact (congrArg (fun r : Rect _ => r.set) (prowK_eq L)).symm ▸ Finset.map_refl
theorem set_psK : (psK L).view.set = (prow (widF L)).set := by
  show (((View.whole (main_v0_1_scv : Ref sig .scVector)).slice (prowK L)).reshape S64x512 squeezes_S1x64x512_S64x512.numel_eq).set = _
  rw [View.set_reshape, View.set_slice]
  exact (congrArg (fun r : Rect _ => r.set) (prowK_eq L)).symm ▸ Finset.map_refl
theorem set_pcK : (pcK L).view.set = (crow (widF L)).set := by
  show (((View.whole (main_v0_2_scv : Ref sig .scVector)).slice (crowK L)).reshape S64x16 squeezes_S1x64x16_S64x16.numel_eq).set = _
  rw [View.set_reshape, View.set_slice]
  exact (congrArg (fun r : Rect _ => r.set) (crowK_eq L)).symm ▸ Finset.map_refl

omit [FloatOps F] in
theorem pts_pmK (f : Buf (Elt F) (pmLoc d)) :
    ((pmK L).view.loc (V d (cV L) (jV L)) ↦[(pmK L).view.set]{fullShare} f : sProp 𝕄) = pmrow d (widF L) f := by rw [set_pmK]
omit [FloatOps F] in
theorem pts_psK (f : Buf (Elt F) (psLoc d)) :
    ((psK L).view.loc (V d (cV L) (jV L)) ↦[(psK L).view.set]{fullShare} f : sProp 𝕄) = psrow d (widF L) f := by rw [set_psK]
omit [FloatOps F] in
theorem pts_pcK (f : Buf (Elt F) (pcLoc d)) :
    ((pcK L).view.loc (V d (cV L) (jV L)) ↦[(pcK L).view.set]{fullShare} f : sProp 𝕄) = pcrow d (widF L) f := by rw [set_pcK]

omit [FloatOps F] in
theorem pts_xT (f : Buf (Elt F) ((V d (cV L) (jV L)).loc cc0_scratch0)) :
    ((V d (cV L) (jV L)).loc cc0_scratch0 ↦{fullShare} f : sProp 𝕄) = ptX d L f := by
  show _ = ((xT).view.loc (V d (cV L) (jV L)) ↦[(View.whole (cc0_scratch0 : Ref sig .scVector)).set]{fullShare} f : sProp 𝕄)
  rw [View.set_whole]
omit [FloatOps F] in
theorem pts_gT (f : Buf (Elt F) ((V d (cV L) (jV L)).loc cc0_scratch1)) :
    ((V d (cV L) (jV L)).loc cc0_scratch1 ↦{fullShare} f : sProp 𝕄) = ptG d L f := by
  show _ = ((gT).view.loc (V d (cV L) (jV L)) ↦[(View.whole (cc0_scratch1 : Ref sig .scVector)).set]{fullShare} f : sProp 𝕄)
  rw [View.set_whole]
omit [FloatOps F] in
theorem pts_mT (f : Buf (Elt F) ((V d (cV L) (jV L)).loc cc0_scratch2)) :
    ((V d (cV L) (jV L)).loc cc0_scratch2 ↦{fullShare} f : sProp 𝕄) = ptM d L f := by
  show _ = ((mT).view.loc (V d (cV L) (jV L)) ↦[(View.whole (cc0_scratch2 : Ref sig .scVector)).set]{fullShare} f : sProp 𝕄)
  rw [View.set_whole]
omit [FloatOps F] in
theorem pts_sT (f : Buf (Elt F) ((V d (cV L) (jV L)).loc cc0_scratch3)) :
    ((V d (cV L) (jV L)).loc cc0_scratch3 ↦{fullShare} f : sProp 𝕄) = ptS d L f := by
  show _ = ((sT).view.loc (V d (cV L) (jV L)) ↦[(View.whole (cc0_scratch3 : Ref sig .scVector)).set]{fullShare} f : sProp 𝕄)
  rw [View.set_whole]
omit [FloatOps F] in
theorem pts_cT (f : Buf (Elt F) ((V d (cV L) (jV L)).loc cc0_scratch4)) :
    ((V d (cV L) (jV L)).loc cc0_scratch4 ↦{fullShare} f : sProp 𝕄) = ptC d L f := by
  show _ = ((cT).view.loc (V d (cV L) (jV L)) ↦[(View.whole (cc0_scratch4 : Ref sig .scVector)).set]{fullShare} f : sProp 𝕄)
  rw [View.set_whole]

/-! ## Where the outputs land -/

theorem squeezeP (y : S64x512.Idx) :
    Shape.reshapeEquiv squeezes_S1x64x512_S64x512.numel_eq y = (fun | 0 => (0 : Fin 1) | 1 => y 0 | 2 => y 1 : S1x64x512.Idx) := by
  refine Shape.reshapeEquiv_eq_of_rowMajor _ ?_
  show (Shape.rowMajorPi _ _).val = (Shape.rowMajorPi _ _).val
  simp [Shape.rowMajorPi_succ_val, Fin.prod_univ_succ]
  rfl
theorem squeezeC (y : S64x16.Idx) :
    Shape.reshapeEquiv squeezes_S1x64x16_S64x16.numel_eq y = (fun | 0 => (0 : Fin 1) | 1 => y 0 | 2 => y 1 : S1x64x16.Idx) := by
  refine Shape.reshapeEquiv_eq_of_rowMajor _ ?_
  show (Shape.rowMajorPi _ _).val = (Shape.rowMajorPi _ _).val
  simp [Shape.rowMajorPi_succ_val, Fin.prod_univ_succ]
  rfl

theorem emb_prowK (y : S64x512.Idx) :
    (prowK L).emb (Shape.reshapeEquiv squeezes_S1x64x512_S64x512.numel_eq y) = (atP (widF L) (y 0) (y 1) : S32x64x512.Idx) := by
  rw [squeezeP]
  funext a; apply Fin.ext
  fin_cases a
  · show k0_off23 L 0 + 1 * 0 = wid L
    rw [k0_off23_eq]; simp [wid]
  · show k0_off23 L 1 + 1 * (y 0).val = (y 0).val
    rw [k0_off23_eq]; simp
  · show k0_off23 L 2 + 1 * (y 1).val = (y 1).val
    rw [k0_off23_eq]; simp
theorem emb_crowK (y : S64x16.Idx) :
    (crowK L).emb (Shape.reshapeEquiv squeezes_S1x64x16_S64x16.numel_eq y) = (atN (widF L) (y 0) (y 1) : S32x64x16.Idx) := by
  rw [squeezeC]
  funext a; apply Fin.ext
  fin_cases a
  · show k0_off24 L 0 + 1 * 0 = wid L
    rw [k0_off24_eq]; simp [wid]
  · show k0_off24 L 1 + 1 * (y 0).val = (y 0).val
    rw [k0_off24_eq]; simp
  · show k0_off24 L 2 + 1 * (y 1).val = (y 1).val
    rw [k0_off24_eq]; simp

omit [FloatOps F] in
theorem wrote_pm (f : Buf (Elt F) (pmLoc d)) (w : S64x512.Idx → F .f32) (g : S32x64x512.Idx → F .f32)
    (h : ∀ y : S64x512.Idx, w y = g (atP (widF L) (y 0) (y 1))) :
    ∀ i ∈ (pmK L).view.set, (pmK L).view.writes (Elt F) f [⟨Rect.whole S64x512, w⟩] i = g i := by
  intro i hi
  obtain ⟨y, -, rfl⟩ := Finset.mem_map.mp hi
  have e := congrFun (View.read_writes_whole (Val := Elt F) (pmK L).view f w) y
  have e2 : (pmK L).view.emb y = (atP (widF L) (y 0) (y 1) : S32x64x512.Idx) := emb_prowK L y
  refine Eq.trans ?_ ((e.trans (h y)).trans (congrArg g e2).symm)
  exact ((View.read_apply _ _).trans (cast_eq _ _)).symm
omit [FloatOps F] in
theorem wrote_ps (f : Buf (Elt F) (psLoc d)) (w : S64x512.Idx → F .f32) (g : S32x64x512.Idx → F .f32)
    (h : ∀ y : S64x512.Idx, w y = g (atP (widF L) (y 0) (y 1))) :
    ∀ i ∈ (psK L).view.set, (psK L).view.writes (Elt F) f [⟨Rect.whole S64x512, w⟩] i = g i := by
  intro i hi
  obtain ⟨y, -, rfl⟩ := Finset.mem_map.mp hi
  have e := congrFun (View.read_writes_whole (Val := Elt F) (psK L).view f w) y
  have e2 : (psK L).view.emb y = (atP (widF L) (y 0) (y 1) : S32x64x512.Idx) := emb_prowK L y
  refine Eq.trans ?_ ((e.trans (h y)).trans (congrArg g e2).symm)
  exact ((View.read_apply _ _).trans (cast_eq _ _)).symm
omit [FloatOps F] in
theorem wrote_pc (f : Buf (Elt F) (pcLoc d)) (w : S64x16.Idx → F .f32) (g : S32x64x16.Idx → F .f32)
    (h : ∀ y : S64x16.Idx, w y = g (atN (widF L) (y 0) (y 1))) :
    ∀ i ∈ (pcK L).view.set, (pcK L).view.writes (Elt F) f [⟨Rect.whole S64x16, w⟩] i = g i := by
  intro i hi
  obtain ⟨y, -, rfl⟩ := Finset.mem_map.mp hi
  have e := congrFun (View.read_writes_whole (Val := Elt F) (pcK L).view f w) y
  have e2 : (pcK L).view.emb y = (atN (widF L) (y 0) (y 1) : S32x64x16.Idx) := emb_crowK L y
  refine Eq.trans ?_ ((e.trans (h y)).trans (congrArg g e2).symm)
  exact ((View.read_apply _ _).trans (cast_eq _ _)).symm

/-! ## The tile -/

set_option maxHeartbeats 4000000 in
/-- The task of a tile: from its share of the rows and segment numbers and its part of each output, the maxima, sums and
    counts of its own rows in its part of the outputs. -/
theorem tile_body (hF : (K (F := F)).Facts) (x : Buf (Elt F) (xLoc d)) (g : Buf (Elt F) (gLoc d)) (hR : ∀ j, (g j).toNat < 64)
    (pm : Buf (Elt F) (pmLoc d)) (ps : Buf (Elt F) (psLoc d)) (pc : Buf (Elt F) (pcLoc d))
    (O : CellTallies nD τ sig (HIx 1)) (W : Waits sig (HIx 1)) (hO : ∀ g, O g none = 0) :
    iprop(levAts (K (F := F)).L (K (F := F)).lev ∗ emp ∗ tileRes d (widF L) x g pm ps pc
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xH (Memref.isWhole_whole _) gH (Memref.isWhole_whole _) pmH (Memref.isWhole_whole _) psH (Memref.isWhole_whole _)
          pcH (Memref.isWhole_whole _) xT (Memref.isWhole_whole _) gT (Memref.isWhole_whole _) mT (Memref.isWhole_whole _)
          sT (Memref.isWhole_whole _) cT (Memref.isWhole_whole _) cc0_scoped0 cc0_scoped1 cc0_scoped2 cc0_scoped3 cc0_scoped4
          cc0_scoped5 cc0_scoped6)
          fun _ => iprop(tileRes d (widF L) x g (partMax x g) (partSum x g) (partCnt x g)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  simp only [k0_part5_eq_skeleton]; unfold k0_part5_skel
  simp only [bind_assoc]
  rw [(K (F := F)).scopedBufs_V hF d (cV L) (jV L), SparseCore.Cfg.scopedSems0_V (Val := Elt F) d (cV L) (jV L), ownSems0_V, ownBufs_V]
  iintro ⟨#Hlv, -, ⟨Hx, Hg, Hpm, Hps, Hpc⟩, ⟨⟨%fX, HX⟩, ⟨%fG, HG⟩, ⟨%fA, HA⟩, ⟨%fB, HB⟩, ⟨%fC, HC⟩, Hbufs⟩,
    ⟨Hs0, Hs1, Hs2, Hs3, Hs4, Hs5, Hs6, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave HX' := (Entails.of_eq (pts_xT (F := F) d L _)) $$ HX
  ihave HG' := (Entails.of_eq (pts_gT (F := F) d L _)) $$ HG
  ihave HA' := (Entails.of_eq (pts_mT (F := F) d L _)) $$ HA
  ihave HB' := (Entails.of_eq (pts_sT (F := F) d L _)) $$ HB
  ihave HC' := (Entails.of_eq (pts_cT (F := F) d L _)) $$ HC
  ihave Hpm' := (Entails.of_eq (pts_pmK (F := F) d L _).symm) $$ Hpm
  ihave Hps' := (Entails.of_eq (pts_psK (F := F) d L _).symm) $$ Hps
  ihave Hpc' := (Entails.of_eq (pts_pcK (F := F) d L _).symm) $$ Hpc
  sl_for (clearInv d L fA fB) $$ [HA' HB']
  case region => intro k _; exact t1_trip d L k fA fB
  · unfold clearInv; rw [fillTo_zero, fillTo_zero]
    isplitl [HA']; · iexact HA'
    iexact HB'
  iintro %_ HI
  unfold clearInv
  rw [trips1, fillTo_all, fillTo_all]
  icases HI with ⟨HA, HB⟩
  sl_exec
  sl_for (clearCInv d L fC) $$ [HC']
  case region => intro k _; exact t2_trip d L k fC
  · unfold clearCInv; rw [fillC_zero]
    iexact HC'
  iintro %_ HC
  unfold clearCInv
  rw [trips2, fillC_all]
  sl_exec
  sl_for (chunkInv d L (tq (widF L)) x g O W) $$ [Hmw Hx Hg HX' HG' HA HB HC Hs0 Hs1 HO]
  case region => intro k _; exact t3_trip d L _ x g hR O W k
  · unfold chunkInv
    isplitl [Hmw]; · iexact Hmw
    isplitl [Hx]; · iexact Hx
    isplitl [Hg]; · iexact Hg
    isplitl [HX' HG' HA HB HC]
    · iexists fX, fG
      unfold heldAt
      isplitl [HX']; · iexact HX'
      isplitl [HG']; · iexact HG'
      isplitl [HA]; · iexact HA
      isplitl [HB]; · iexact HB
      iexact HC
    isplitl [Hs0]; · iexact Hs0
    isplitl [Hs1]; · iexact Hs1
    iexists W
    isplitr; · ipureintro; exact fun p hp => .inl hp
    iexact HO
  iintro %_ HI
  unfold chunkInv
  rw [trips3]
  icases HI with ⟨#Hmw, Hx, Hg, ⟨%X, %G, HI⟩, Hs0, Hs1, %W', %hW', HO⟩
  unfold heldAt
  icases HI with ⟨HX, HG, HA, HB, HC⟩
  sl_exec
  sl_for (fun (_ : ℕ) (_ : Unit) => (iprop(emp) : sProp 𝕄)) $$ []
  case region => intro k _; exact absurd (lt_of_lt_of_eq k.isLt (trips8 L)) (Nat.not_lt_zero _)
  · iempintro
  iintro %_ -
  sl_exec (disch := exact View.amount_pos _ _ (by decide))
  sl_step
  have hm := wrote_pm (F := F) d L pm (tile_body.sl.dma0 d L x g) (partMax x g) fun y => congrArg (tileSt x g (wid L)).mx (by funext a; fin_cases a <;> rfl)
  have hs := wrote_ps (F := F) d L ps (tile_body.sl.dma0_1 d L x g) (partSum x g) fun y => congrArg (tileSt x g (wid L)).sm (by funext a; fin_cases a <;> rfl)
  have hc := wrote_pc (F := F) d L pc (tile_body.sl.dma0_2 d L x g) (partCnt x g) fun y => congrArg (tileSt x g (wid L)).ct (by funext a; fin_cases a <;> rfl)
  isplitl [Hx Hg Hpm' Hps' Hpc']
  · isplitl [Hx]; · iexact Hx
    isplitl [Hg]; · iexact Hg
    isplitl [Hpm']
    · iapply (Entails.of_eq ((pointsTo_congr hm).trans (pts_pmK (F := F) d L _))); iexact Hpm'
    isplitl [Hps']
    · iapply (Entails.of_eq ((pointsTo_congr hs).trans (pts_psK (F := F) d L _))); iexact Hps'
    · iapply (Entails.of_eq ((pointsTo_congr hc).trans (pts_pcK (F := F) d L _))); iexact Hpc'
  isplitl [HX HG HA HB HC Hbufs]
  · isplitl [HX]; · iexists X; iapply (Entails.of_eq (pts_xT (F := F) d L _).symm); iexact HX
    isplitl [HG]; · iexists G; iapply (Entails.of_eq (pts_gT (F := F) d L _).symm); iexact HG
    isplitl [HA]; · iexists _; iapply (Entails.of_eq (pts_mT (F := F) d L _).symm); iexact HA
    isplitl [HB]; · iexists _; iapply (Entails.of_eq (pts_sT (F := F) d L _).symm); iexact HB
    isplitl [HC]; · iexists _; iapply (Entails.of_eq (pts_cT (F := F) d L _).symm); iexact HC
    iexact Hbufs
  isplitl [Hs0 Hs1 Hs2 Hs3 Hs4 Hs5 Hs6 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Cert.Proof.Pool

end
-- ==== Proof.Head.lean ====
module

public import proofs.«01_k».proof.Proof.Base
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.ValueKit

@[expose] public section

noncomputable section

namespace Cert.Proof.Pool

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-! ## The head: what the TensorCore's kernel computes, and that its body computes it -/

/-- The head's result from the tiles' partial tables and the layers' weights. -/
def headVal (pm : Vec F S32x64x512 .f32) (ps : Vec F S32x64x512 .f32) (pc : Vec F S32x64x16 .f32) (w1 : Vec F S1024x512 .f32) (b1 : Vec F S512 .f32) (g1 : Vec F S512 .f32) (be1 : Vec F S512 .f32) (w2 : Vec F S512x256 .f32) (b2 : Vec F S256 .f32) (g2 : Vec F S256 .f32) (be2 : Vec F S256 .f32) (w3 : Vec F S256x8 .f32) (b3 : Vec F S8 .f32) : Vec F S64x8 .f32 :=
  k1_pay1 be2 (k1_pay6 g1 be1 (k1_pay4 pm ps pc w1 b1) (k1_pay5 pm ps pc w1 b1) (Scalar.ofBits .f32 0x3727C5AC#32) w2 b2 g2) w3 b3

/-- A TensorCore buffer held whole. -/
abbrev hpt (c : Dev nD) (b : Ref sig .tc) (f : Buf (Elt F) ((c : Thread nD τ).loc b)) : sProp 𝕄 :=
  (Memref.whole b).view.loc (c : Thread nD τ) ↦{fullShare} f

theorem zeros1 : (![0] : Fin 1 → ℕ) = fun _ => 0 := by funext a; fin_cases a; rfl
theorem zeros2 : (![0, 0] : Fin 2 → ℕ) = fun _ => 0 := by funext a; fin_cases a <;> rfl
theorem zeros3 : (![0, 0, 0] : Fin 3 → ℕ) = fun _ => 0 := by funext a; fin_cases a <;> rfl

theorem head_write (f w : Vec F S64x8 .f32) :
    (Memref.whole cc1_stg13_0).view.writes (Elt F) f [⟨Rect.unit ![0, 0] S64x8.size inb_S64x8_S64x8_0_0, w⟩] = w :=
  Memref.write_access_unit_zero_univ (Elt F) cc1_stg13_0 zeros2 inb_S64x8_S64x8_0_0 f w

theorem head_read0 (f0 : Vec F S32x64x512 .f32) :
    (Memref.whole cc1_stg0_0).view.readAt (Elt F) (Rect.unit ![0, 0, 0] S32x64x512.size inb_S32x64x512_S32x64x512_0_0_0).toLoadRect f0 = f0 :=
  Memref.readAt_unit_zero (Elt F) cc1_stg0_0 zeros3 inb_S32x64x512_S32x64x512_0_0_0 f0

theorem head_read1 (f1 : Vec F S32x64x512 .f32) :
    (Memref.whole cc1_stg1_0).view.readAt (Elt F) (Rect.unit ![0, 0, 0] S32x64x512.size inb_S32x64x512_S32x64x512_0_0_0).toLoadRect f1 = f1 :=
  Memref.readAt_unit_zero (Elt F) cc1_stg1_0 zeros3 inb_S32x64x512_S32x64x512_0_0_0 f1

theorem head_read2 (f2 : Vec F S32x64x16 .f32) :
    (Memref.whole cc1_stg2_0).view.readAt (Elt F) (Rect.unit ![0, 0, 0] S32x64x16.size inb_S32x64x16_S32x64x16_0_0_0).toLoadRect f2 = f2 :=
  Memref.readAt_unit_zero (Elt F) cc1_stg2_0 zeros3 inb_S32x64x16_S32x64x16_0_0_0 f2

theorem head_read3 (f3 : Vec F S1024x512 .f32) :
    (Memref.whole cc1_stg3_0).view.readAt (Elt F) (Rect.unit ![0, 0] S1024x512.size inb_S1024x512_S1024x512_0_0).toLoadRect f3 = f3 :=
  Memref.readAt_unit_zero (Elt F) cc1_stg3_0 zeros2 inb_S1024x512_S1024x512_0_0 f3

theorem head_read4 (f4 : Vec F S512 .f32) :
    (Memref.whole cc1_stg4_0).view.readAt (Elt F) (Rect.unit ![0] S512.size inb_S512_S512_0).toLoadRect f4 = f4 :=
  Memref.readAt_unit_zero (Elt F) cc1_stg4_0 zeros1 inb_S512_S512_0 f4

theorem head_read5 (f5 : Vec F S512 .f32) :
    (Memref.whole cc1_stg5_0).view.readAt (Elt F) (Rect.unit ![0] S512.size inb_S512_S512_0).toLoadRect f5 = f5 :=
  Memref.readAt_unit_zero (Elt F) cc1_stg5_0 zeros1 inb_S512_S512_0 f5

theorem head_read6 (f6 : Vec F S512 .f32) :
    (Memref.whole cc1_stg6_0).view.readAt (Elt F) (Rect.unit ![0] S512.size inb_S512_S512_0).toLoadRect f6 = f6 :=
  Memref.readAt_unit_zero (Elt F) cc1_stg6_0 zeros1 inb_S512_S512_0 f6

theorem head_read7 (f7 : Vec F S512x256 .f32) :
    (Memref.whole cc1_stg7_0).view.readAt (Elt F) (Rect.unit ![0, 0] S512x256.size inb_S512x256_S512x256_0_0).toLoadRect f7 = f7 :=
  Memref.readAt_unit_zero (Elt F) cc1_stg7_0 zeros2 inb_S512x256_S512x256_0_0 f7

theorem head_read8 (f8 : Vec F S256 .f32) :
    (Memref.whole cc1_stg8_0).view.readAt (Elt F) (Rect.unit ![0] S256.size inb_S256_S256_0).toLoadRect f8 = f8 :=
  Memref.readAt_unit_zero (Elt F) cc1_stg8_0 zeros1 inb_S256_S256_0 f8

theorem head_read9 (f9 : Vec F S256 .f32) :
    (Memref.whole cc1_stg9_0).view.readAt (Elt F) (Rect.unit ![0] S256.size inb_S256_S256_0).toLoadRect f9 = f9 :=
  Memref.readAt_unit_zero (Elt F) cc1_stg9_0 zeros1 inb_S256_S256_0 f9

theorem head_read10 (f10 : Vec F S256 .f32) :
    (Memref.whole cc1_stg10_0).view.readAt (Elt F) (Rect.unit ![0] S256.size inb_S256_S256_0).toLoadRect f10 = f10 :=
  Memref.readAt_unit_zero (Elt F) cc1_stg10_0 zeros1 inb_S256_S256_0 f10

theorem head_read11 (f11 : Vec F S256x8 .f32) :
    (Memref.whole cc1_stg11_0).view.readAt (Elt F) (Rect.unit ![0, 0] S256x8.size inb_S256x8_S256x8_0_0).toLoadRect f11 = f11 :=
  Memref.readAt_unit_zero (Elt F) cc1_stg11_0 zeros2 inb_S256x8_S256x8_0_0 f11

theorem head_read12 (f12 : Vec F S8 .f32) :
    (Memref.whole cc1_stg12_0).view.readAt (Elt F) (Rect.unit ![0] S8.size inb_S8_S8_0).toLoadRect f12 = f12 :=
  Memref.readAt_unit_zero (Elt F) cc1_stg12_0 zeros1 inb_S8_S8_0 f12

theorem head_stored (f0 : Vec F S32x64x512 .f32) (f1 : Vec F S32x64x512 .f32) (f2 : Vec F S32x64x16 .f32) (f3 : Vec F S1024x512 .f32) (f4 : Vec F S512 .f32) (f5 : Vec F S512 .f32) (f6 : Vec F S512 .f32) (f7 : Vec F S512x256 .f32) (f8 : Vec F S256 .f32) (f9 : Vec F S256 .f32) (f10 : Vec F S256 .f32) (f11 : Vec F S256x8 .f32) (f12 : Vec F S8 .f32) (f13 : Vec F S64x8 .f32) :
    (Memref.whole cc1_stg13_0).view.writes (Elt F) f13 [⟨Rect.unit ![0, 0] ![64, 8] inb_S64x8_S64x8_0_0,
      k1_pay1 ((Memref.whole cc1_stg10_0).view.readAt (Elt F) (Rect.unit (s := S256) ![0] ![256] inb_S256_S256_0).toLoadRect f10) (k1_pay6 ((Memref.whole cc1_stg5_0).view.readAt (Elt F) (Rect.unit (s := S512) ![0] ![512] inb_S512_S512_0).toLoadRect f5) ((Memref.whole cc1_stg6_0).view.readAt (Elt F) (Rect.unit (s := S512) ![0] ![512] inb_S512_S512_0).toLoadRect f6) (k1_pay4 ((Memref.whole cc1_stg0_0).view.readAt (Elt F) (Rect.unit (s := S32x64x512) ![0, 0, 0] ![32, 64, 512] inb_S32x64x512_S32x64x512_0_0_0).toLoadRect f0) ((Memref.whole cc1_stg1_0).view.readAt (Elt F) (Rect.unit (s := S32x64x512) ![0, 0, 0] ![32, 64, 512] inb_S32x64x512_S32x64x512_0_0_0).toLoadRect f1) ((Memref.whole cc1_stg2_0).view.readAt (Elt F) (Rect.unit (s := S32x64x16) ![0, 0, 0] ![32, 64, 16] inb_S32x64x16_S32x64x16_0_0_0).toLoadRect f2) ((Memref.whole cc1_stg3_0).view.readAt (Elt F) (Rect.unit (s := S1024x512) ![0, 0] ![1024, 512] inb_S1024x512_S1024x512_0_0).toLoadRect f3) ((Memref.whole cc1_stg4_0).view.readAt (Elt F) (Rect.unit (s := S512) ![0] ![512] inb_S512_S512_0).toLoadRect f4)) (k1_pay5 ((Memref.whole cc1_stg0_0).view.readAt (Elt F) (Rect.unit (s := S32x64x512) ![0, 0, 0] ![32, 64, 512] inb_S32x64x512_S32x64x512_0_0_0).toLoadRect f0) ((Memref.whole cc1_stg1_0).view.readAt (Elt F) (Rect.unit (s := S32x64x512) ![0, 0, 0] ![32, 64, 512] inb_S32x64x512_S32x64x512_0_0_0).toLoadRect f1) ((Memref.whole cc1_stg2_0).view.readAt (Elt F) (Rect.unit (s := S32x64x16) ![0, 0, 0] ![32, 64, 16] inb_S32x64x16_S32x64x16_0_0_0).toLoadRect f2) ((Memref.whole cc1_stg3_0).view.readAt (Elt F) (Rect.unit (s := S1024x512) ![0, 0] ![1024, 512] inb_S1024x512_S1024x512_0_0).toLoadRect f3) ((Memref.whole cc1_stg4_0).view.readAt (Elt F) (Rect.unit (s := S512) ![0] ![512] inb_S512_S512_0).toLoadRect f4)) (FloatOps.ofBits FTy.f32 925353388#32) ((Memref.whole cc1_stg7_0).view.readAt (Elt F) (Rect.unit (s := S512x256) ![0, 0] ![512, 256] inb_S512x256_S512x256_0_0).toLoadRect f7) ((Memref.whole cc1_stg8_0).view.readAt (Elt F) (Rect.unit (s := S256) ![0] ![256] inb_S256_S256_0).toLoadRect f8) ((Memref.whole cc1_stg9_0).view.readAt (Elt F) (Rect.unit (s := S256) ![0] ![256] inb_S256_S256_0).toLoadRect f9)) ((Memref.whole cc1_stg11_0).view.readAt (Elt F) (Rect.unit (s := S256x8) ![0, 0] ![256, 8] inb_S256x8_S256x8_0_0).toLoadRect f11) ((Memref.whole cc1_stg12_0).view.readAt (Elt F) (Rect.unit (s := S8) ![0] ![8] inb_S8_S8_0).toLoadRect f12)⟩]
    = headVal f0 f1 f2 f3 f4 f5 f6 f7 f8 f9 f10 f11 f12 := by
  refine (head_write f13 _).trans ?_
  rw [show ((Memref.whole cc1_stg0_0).view.readAt (Elt F) (Rect.unit (s := S32x64x512) ![0, 0, 0] ![32, 64, 512] inb_S32x64x512_S32x64x512_0_0_0).toLoadRect f0) = f0 from head_read0 f0]
  rw [show ((Memref.whole cc1_stg1_0).view.readAt (Elt F) (Rect.unit (s := S32x64x512) ![0, 0, 0] ![32, 64, 512] inb_S32x64x512_S32x64x512_0_0_0).toLoadRect f1) = f1 from head_read1 f1]
  rw [show ((Memref.whole cc1_stg2_0).view.readAt (Elt F) (Rect.unit (s := S32x64x16) ![0, 0, 0] ![32, 64, 16] inb_S32x64x16_S32x64x16_0_0_0).toLoadRect f2) = f2 from head_read2 f2]
  rw [show ((Memref.whole cc1_stg3_0).view.readAt (Elt F) (Rect.unit (s := S1024x512) ![0, 0] ![1024, 512] inb_S1024x512_S1024x512_0_0).toLoadRect f3) = f3 from head_read3 f3]
  rw [show ((Memref.whole cc1_stg4_0).view.readAt (Elt F) (Rect.unit (s := S512) ![0] ![512] inb_S512_S512_0).toLoadRect f4) = f4 from head_read4 f4]
  rw [show ((Memref.whole cc1_stg5_0).view.readAt (Elt F) (Rect.unit (s := S512) ![0] ![512] inb_S512_S512_0).toLoadRect f5) = f5 from head_read5 f5]
  rw [show ((Memref.whole cc1_stg6_0).view.readAt (Elt F) (Rect.unit (s := S512) ![0] ![512] inb_S512_S512_0).toLoadRect f6) = f6 from head_read6 f6]
  rw [show ((Memref.whole cc1_stg7_0).view.readAt (Elt F) (Rect.unit (s := S512x256) ![0, 0] ![512, 256] inb_S512x256_S512x256_0_0).toLoadRect f7) = f7 from head_read7 f7]
  rw [show ((Memref.whole cc1_stg8_0).view.readAt (Elt F) (Rect.unit (s := S256) ![0] ![256] inb_S256_S256_0).toLoadRect f8) = f8 from head_read8 f8]
  rw [show ((Memref.whole cc1_stg9_0).view.readAt (Elt F) (Rect.unit (s := S256) ![0] ![256] inb_S256_S256_0).toLoadRect f9) = f9 from head_read9 f9]
  rw [show ((Memref.whole cc1_stg10_0).view.readAt (Elt F) (Rect.unit (s := S256) ![0] ![256] inb_S256_S256_0).toLoadRect f10) = f10 from head_read10 f10]
  rw [show ((Memref.whole cc1_stg11_0).view.readAt (Elt F) (Rect.unit (s := S256x8) ![0, 0] ![256, 8] inb_S256x8_S256x8_0_0).toLoadRect f11) = f11 from head_read11 f11]
  rw [show ((Memref.whole cc1_stg12_0).view.readAt (Elt F) (Rect.unit (s := S8) ![0] ![8] inb_S8_S8_0).toLoadRect f12) = f12 from head_read12 f12]
  rfl

theorem head_run (c : Dev nD) (f0 : Buf (Elt F) ((c : Thread nD τ).loc cc1_stg0_0)) (f1 : Buf (Elt F) ((c : Thread nD τ).loc cc1_stg1_0)) (f2 : Buf (Elt F) ((c : Thread nD τ).loc cc1_stg2_0)) (f3 : Buf (Elt F) ((c : Thread nD τ).loc cc1_stg3_0)) (f4 : Buf (Elt F) ((c : Thread nD τ).loc cc1_stg4_0)) (f5 : Buf (Elt F) ((c : Thread nD τ).loc cc1_stg5_0)) (f6 : Buf (Elt F) ((c : Thread nD τ).loc cc1_stg6_0)) (f7 : Buf (Elt F) ((c : Thread nD τ).loc cc1_stg7_0)) (f8 : Buf (Elt F) ((c : Thread nD τ).loc cc1_stg8_0)) (f9 : Buf (Elt F) ((c : Thread nD τ).loc cc1_stg9_0)) (f10 : Buf (Elt F) ((c : Thread nD τ).loc cc1_stg10_0)) (f11 : Buf (Elt F) ((c : Thread nD τ).loc cc1_stg11_0)) (f12 : Buf (Elt F) ((c : Thread nD τ).loc cc1_stg12_0)) (f13 : Buf (Elt F) ((c : Thread nD τ).loc cc1_stg13_0)) (E : Set ℕ) (Q : PUnit → sProp 𝕄) :
    iprop(hpt c cc1_stg0_0 f0 ∗ hpt c cc1_stg1_0 f1 ∗ hpt c cc1_stg2_0 f2 ∗ hpt c cc1_stg3_0 f3 ∗ hpt c cc1_stg4_0 f4 ∗ hpt c cc1_stg5_0 f5 ∗ hpt c cc1_stg6_0 f6 ∗ hpt c cc1_stg7_0 f7 ∗ hpt c cc1_stg8_0 f8 ∗ hpt c cc1_stg9_0 f9 ∗ hpt c cc1_stg10_0 f10 ∗ hpt c cc1_stg11_0 f11 ∗ hpt c cc1_stg12_0 f12 ∗ hpt c cc1_stg13_0 f13 ∗ (iprop(hpt c cc1_stg0_0 f0 ∗ hpt c cc1_stg1_0 f1 ∗ hpt c cc1_stg2_0 f2 ∗ hpt c cc1_stg3_0 f3 ∗ hpt c cc1_stg4_0 f4 ∗ hpt c cc1_stg5_0 f5 ∗ hpt c cc1_stg6_0 f6 ∗ hpt c cc1_stg7_0 f7 ∗ hpt c cc1_stg8_0 f8 ∗ hpt c cc1_stg9_0 f9 ∗ hpt c cc1_stg10_0 f10 ∗ hpt c cc1_stg11_0 f11 ∗ hpt c cc1_stg12_0 f12 ∗ hpt c cc1_stg13_0 (headVal f0 f1 f2 f3 f4 f5 f6 f7 f8 f9 f10 f11 f12)) -∗ Q ⟨⟩))
      ⊢ wp frame (wpE (defs₀ (F := F)) Variants.none (c : Thread nD τ) none) E
        (cc1__tc_head_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole cc1_stg8_0) (Memref.isWhole_whole _) (Memref.whole cc1_stg9_0) (Memref.isWhole_whole _) (Memref.whole cc1_stg10_0) (Memref.isWhole_whole _) (Memref.whole cc1_stg11_0) (Memref.isWhole_whole _) (Memref.whole cc1_stg12_0) (Memref.isWhole_whole _) (Memref.whole cc1_stg13_0) (Memref.isWhole_whole _)) Q := by
  rw [cc1__tc_head_body_eq_skeleton]
  unfold cc1__tc_head_body_skel
  rw [k1_part1_eq_skeleton, k1_part2_eq_skeleton]
  unfold k1_part1_skel k1_part2_skel
  simp only [bind_assoc, pure_bind]
  iintro ⟨H0, H1, H2, H3, H4, H5, H6, H7, H8, H9, H10, H11, H12, H13, Hk⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  ihave H := (Entails.of_eq (congrArg (hpt c cc1_stg13_0) (head_stored f0 f1 f2 f3 f4 f5 f6 f7 f8 f9 f10 f11 f12 f13))) $$ H13
  iexact H

end Cert.Proof.Pool

end
-- ==== Proof.Region.lean ====
module

public import proofs.«01_k».proof.Proof.Head

@[expose] public section

noncomputable section

namespace Cert.Proof.Pool

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-! ## The TensorCore's call: its windows, its proof data and its region -/

variable (Vv : (c : Dev nD) → (b : Ref sig .tc) → Buf (Elt F) ((c : Thread nD τ).loc b))

/-- The head's result from the arrays a valuation gives. -/
abbrev headOf (c : Dev nD) : Vec F S64x8 .f32 := headVal (F := F) (Vv c main_v0_0) (Vv c main_v0_1) (Vv c main_v0_2) (Vv c main_arg2) (Vv c main_arg3) (Vv c main_arg4) (Vv c main_arg5) (Vv c main_arg6) (Vv c main_arg7) (Vv c main_arg8) (Vv c main_arg9) (Vv c main_arg10) (Vv c main_arg11)

/-- The recorded waits the TensorCore may hold around the call. -/
def recd (bnd : ℕ) (c : Dev nD) : Set (SemLoc sig × HIx 1) := {p | (K (F := F)).lev ((c : Thread nD τ), p.1) p.2 ≤ bnd}

variable (bnd : ℕ)

def hdat (c : Dev nD) : Dat τ (Elt F) (HIx 1) ℕ UU ℕ cfg1 c where
  A w := Vv c (Pipeline.arrRef spec1 w)
  after w _ := match w with
    | ⟨0, _⟩ => Vv c main_v0_0
    | ⟨1, _⟩ => Vv c main_v0_1
    | ⟨2, _⟩ => Vv c main_v0_2
    | ⟨3, _⟩ => Vv c main_arg2
    | ⟨4, _⟩ => Vv c main_arg3
    | ⟨5, _⟩ => Vv c main_arg4
    | ⟨6, _⟩ => Vv c main_arg5
    | ⟨7, _⟩ => Vv c main_arg6
    | ⟨8, _⟩ => Vv c main_arg7
    | ⟨9, _⟩ => Vv c main_arg8
    | ⟨10, _⟩ => Vv c main_arg9
    | ⟨11, _⟩ => Vv c main_arg10
    | ⟨12, _⟩ => Vv c main_arg11
    | ⟨13, _⟩ => headOf Vv c
  Φ _ := Pipeline.scopedRest (Ix := HIx 1) (Name := ℕ) (U := UU) (Lvl := ℕ) (Val := Elt F) spec1 c
  q _ := fullShare
  owed _ := 0
  recorded _ := recd (F := F) bnd c

theorem before_in0 (c : Dev nD) (d : (cfg1.win 0).block.Idx → Elt F (cfg1.win 0).elt) :
    (hdat Vv bnd c).before 0 t1_0 d = Vv c main_v0_0 := by
  unfold Dat.before
  rw [if_pos (fetch1_0 t1_0)]
  show ((cfg1.win 0).blk t1_0).view.read (Elt F) (Vv c main_v0_0) = _
  exact Memref.read_access_unit_zero (Elt F) main_v0_0 (off := fun a => 0 * S32x64x512.size a) (by funext a; exact Nat.zero_mul _)
    (fun a => by rw [Nat.zero_mul, Nat.zero_add]) (Vv c main_v0_0)

theorem before_in1 (c : Dev nD) (d : (cfg1.win 1).block.Idx → Elt F (cfg1.win 1).elt) :
    (hdat Vv bnd c).before 1 t1_0 d = Vv c main_v0_1 := by
  unfold Dat.before
  rw [if_pos (fetch1_1 t1_0)]
  show ((cfg1.win 1).blk t1_0).view.read (Elt F) (Vv c main_v0_1) = _
  exact Memref.read_access_unit_zero (Elt F) main_v0_1 (off := fun a => 0 * S32x64x512.size a) (by funext a; exact Nat.zero_mul _)
    (fun a => by rw [Nat.zero_mul, Nat.zero_add]) (Vv c main_v0_1)

theorem before_in2 (c : Dev nD) (d : (cfg1.win 2).block.Idx → Elt F (cfg1.win 2).elt) :
    (hdat Vv bnd c).before 2 t1_0 d = Vv c main_v0_2 := by
  unfold Dat.before
  rw [if_pos (fetch1_2 t1_0)]
  show ((cfg1.win 2).blk t1_0).view.read (Elt F) (Vv c main_v0_2) = _
  exact Memref.read_access_unit_zero (Elt F) main_v0_2 (off := fun a => 0 * S32x64x16.size a) (by funext a; exact Nat.zero_mul _)
    (fun a => by rw [Nat.zero_mul, Nat.zero_add]) (Vv c main_v0_2)

theorem before_in3 (c : Dev nD) (d : (cfg1.win 3).block.Idx → Elt F (cfg1.win 3).elt) :
    (hdat Vv bnd c).before 3 t1_0 d = Vv c main_arg2 := by
  unfold Dat.before
  rw [if_pos (fetch1_3 t1_0)]
  show ((cfg1.win 3).blk t1_0).view.read (Elt F) (Vv c main_arg2) = _
  exact Memref.read_access_unit_zero (Elt F) main_arg2 (off := fun a => 0 * S1024x512.size a) (by funext a; exact Nat.zero_mul _)
    (fun a => by rw [Nat.zero_mul, Nat.zero_add]) (Vv c main_arg2)

theorem before_in4 (c : Dev nD) (d : (cfg1.win 4).block.Idx → Elt F (cfg1.win 4).elt) :
    (hdat Vv bnd c).before 4 t1_0 d = Vv c main_arg3 := by
  unfold Dat.before
  rw [if_pos (fetch1_4 t1_0)]
  show ((cfg1.win 4).blk t1_0).view.read (Elt F) (Vv c main_arg3) = _
  exact Memref.read_access_unit_zero (Elt F) main_arg3 (off := fun a => 0 * S512.size a) (by funext a; exact Nat.zero_mul _)
    (fun a => by rw [Nat.zero_mul, Nat.zero_add]) (Vv c main_arg3)

theorem before_in5 (c : Dev nD) (d : (cfg1.win 5).block.Idx → Elt F (cfg1.win 5).elt) :
    (hdat Vv bnd c).before 5 t1_0 d = Vv c main_arg4 := by
  unfold Dat.before
  rw [if_pos (fetch1_5 t1_0)]
  show ((cfg1.win 5).blk t1_0).view.read (Elt F) (Vv c main_arg4) = _
  exact Memref.read_access_unit_zero (Elt F) main_arg4 (off := fun a => 0 * S512.size a) (by funext a; exact Nat.zero_mul _)
    (fun a => by rw [Nat.zero_mul, Nat.zero_add]) (Vv c main_arg4)

theorem before_in6 (c : Dev nD) (d : (cfg1.win 6).block.Idx → Elt F (cfg1.win 6).elt) :
    (hdat Vv bnd c).before 6 t1_0 d = Vv c main_arg5 := by
  unfold Dat.before
  rw [if_pos (fetch1_6 t1_0)]
  show ((cfg1.win 6).blk t1_0).view.read (Elt F) (Vv c main_arg5) = _
  exact Memref.read_access_unit_zero (Elt F) main_arg5 (off := fun a => 0 * S512.size a) (by funext a; exact Nat.zero_mul _)
    (fun a => by rw [Nat.zero_mul, Nat.zero_add]) (Vv c main_arg5)

theorem before_in7 (c : Dev nD) (d : (cfg1.win 7).block.Idx → Elt F (cfg1.win 7).elt) :
    (hdat Vv bnd c).before 7 t1_0 d = Vv c main_arg6 := by
  unfold Dat.before
  rw [if_pos (fetch1_7 t1_0)]
  show ((cfg1.win 7).blk t1_0).view.read (Elt F) (Vv c main_arg6) = _
  exact Memref.read_access_unit_zero (Elt F) main_arg6 (off := fun a => 0 * S512x256.size a) (by funext a; exact Nat.zero_mul _)
    (fun a => by rw [Nat.zero_mul, Nat.zero_add]) (Vv c main_arg6)

theorem before_in8 (c : Dev nD) (d : (cfg1.win 8).block.Idx → Elt F (cfg1.win 8).elt) :
    (hdat Vv bnd c).before 8 t1_0 d = Vv c main_arg7 := by
  unfold Dat.before
  rw [if_pos (fetch1_8 t1_0)]
  show ((cfg1.win 8).blk t1_0).view.read (Elt F) (Vv c main_arg7) = _
  exact Memref.read_access_unit_zero (Elt F) main_arg7 (off := fun a => 0 * S256.size a) (by funext a; exact Nat.zero_mul _)
    (fun a => by rw [Nat.zero_mul, Nat.zero_add]) (Vv c main_arg7)

theorem before_in9 (c : Dev nD) (d : (cfg1.win 9).block.Idx → Elt F (cfg1.win 9).elt) :
    (hdat Vv bnd c).before 9 t1_0 d = Vv c main_arg8 := by
  unfold Dat.before
  rw [if_pos (fetch1_9 t1_0)]
  show ((cfg1.win 9).blk t1_0).view.read (Elt F) (Vv c main_arg8) = _
  exact Memref.read_access_unit_zero (Elt F) main_arg8 (off := fun a => 0 * S256.size a) (by funext a; exact Nat.zero_mul _)
    (fun a => by rw [Nat.zero_mul, Nat.zero_add]) (Vv c main_arg8)

theorem before_in10 (c : Dev nD) (d : (cfg1.win 10).block.Idx → Elt F (cfg1.win 10).elt) :
    (hdat Vv bnd c).before 10 t1_0 d = Vv c main_arg9 := by
  unfold Dat.before
  rw [if_pos (fetch1_10 t1_0)]
  show ((cfg1.win 10).blk t1_0).view.read (Elt F) (Vv c main_arg9) = _
  exact Memref.read_access_unit_zero (Elt F) main_arg9 (off := fun a => 0 * S256.size a) (by funext a; exact Nat.zero_mul _)
    (fun a => by rw [Nat.zero_mul, Nat.zero_add]) (Vv c main_arg9)

theorem before_in11 (c : Dev nD) (d : (cfg1.win 11).block.Idx → Elt F (cfg1.win 11).elt) :
    (hdat Vv bnd c).before 11 t1_0 d = Vv c main_arg10 := by
  unfold Dat.before
  rw [if_pos (fetch1_11 t1_0)]
  show ((cfg1.win 11).blk t1_0).view.read (Elt F) (Vv c main_arg10) = _
  exact Memref.read_access_unit_zero (Elt F) main_arg10 (off := fun a => 0 * S256x8.size a) (by funext a; exact Nat.zero_mul _)
    (fun a => by rw [Nat.zero_mul, Nat.zero_add]) (Vv c main_arg10)

theorem before_in12 (c : Dev nD) (d : (cfg1.win 12).block.Idx → Elt F (cfg1.win 12).elt) :
    (hdat Vv bnd c).before 12 t1_0 d = Vv c main_arg11 := by
  unfold Dat.before
  rw [if_pos (fetch1_12 t1_0)]
  show ((cfg1.win 12).blk t1_0).view.read (Elt F) (Vv c main_arg11) = _
  exact Memref.read_access_unit_zero (Elt F) main_arg11 (off := fun a => 0 * S8.size a) (by funext a; exact Nat.zero_mul _)
    (fun a => by rw [Nat.zero_mul, Nat.zero_add]) (Vv c main_arg11)

set_option maxRecDepth 16384 in
theorem body_obligation (c : Dev nD) : BodyObligation (hdat Vv bnd c) (defs₀ (F := F)) 𝒱₀ (none : HIx 1) Set.univ := fun t => by
  obtain rfl := fin_N1 t
  rw [bigSep_W1, bigSep_W1]
  simp only [owns_whole_eq]
  rw [show (hdat Vv bnd c).Φ t1_0.castSucc = (hdat Vv bnd c).Φ t1_0.succ from rfl,
    show (hdat Vv bnd c).owesAt (none : HIx 1) t1_0.succ = (hdat Vv bnd c).owesAt (none : HIx 1) t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, -, H13⟩⟩
  rw [before_in0] at hf0
  subst hf0
  rw [before_in1] at hf1
  subst hf1
  rw [before_in2] at hf2
  subst hf2
  rw [before_in3] at hf3
  subst hf3
  rw [before_in4] at hf4
  subst hf4
  rw [before_in5] at hf5
  subst hf5
  rw [before_in6] at hf6
  subst hf6
  rw [before_in7] at hf7
  subst hf7
  rw [before_in8] at hf8
  subst hf8
  rw [before_in9] at hf9
  subst hf9
  rw [before_in10] at hf10
  subst hf10
  rw [before_in11] at hf11
  subst hf11
  rw [before_in12] at hf12
  subst hf12
  iapply (head_run c (Vv c main_v0_0) (Vv c main_v0_1) (Vv c main_v0_2) (Vv c main_arg2) (Vv c main_arg3) (Vv c main_arg4) (Vv c main_arg5) (Vv c main_arg6) (Vv c main_arg7) (Vv c main_arg8) (Vv c main_arg9) (Vv c main_arg10) (Vv c main_arg11) f13 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H0, H1, H2, H3, H4, H5, H6, H7, H8, H9, H10, H11, H12, H13⟩
  isplitl [HΦ]; · iexact HΦ
  isplitl [Howes]; · iexact Howes
  isplitl [H0]; · iexists _; isplitr; swap; (· iexact H0); ipureintro; dsimp only [hdat]
  isplitl [H1]; · iexists _; isplitr; swap; (· iexact H1); ipureintro; dsimp only [hdat]
  isplitl [H2]; · iexists _; isplitr; swap; (· iexact H2); ipureintro; dsimp only [hdat]
  isplitl [H3]; · iexists _; isplitr; swap; (· iexact H3); ipureintro; dsimp only [hdat]
  isplitl [H4]; · iexists _; isplitr; swap; (· iexact H4); ipureintro; dsimp only [hdat]
  isplitl [H5]; · iexists _; isplitr; swap; (· iexact H5); ipureintro; dsimp only [hdat]
  isplitl [H6]; · iexists _; isplitr; swap; (· iexact H6); ipureintro; dsimp only [hdat]
  isplitl [H7]; · iexists _; isplitr; swap; (· iexact H7); ipureintro; dsimp only [hdat]
  isplitl [H8]; · iexists _; isplitr; swap; (· iexact H8); ipureintro; dsimp only [hdat]
  isplitl [H9]; · iexists _; isplitr; swap; (· iexact H9); ipureintro; dsimp only [hdat]
  isplitl [H10]; · iexists _; isplitr; swap; (· iexact H10); ipureintro; dsimp only [hdat]
  isplitl [H11]; · iexists _; isplitr; swap; (· iexact H11); ipureintro; dsimp only [hdat]
  isplitl [H12]; · iexists _; isplitr; swap; (· iexact H12); ipureintro; dsimp only [hdat]
  iexists _; isplitr; swap; (· iexact H13); ipureintro; dsimp only [hdat]

abbrev adm : (p : Fin 1) → (pcfgs (F := F) p).Adm := fun q => (cfgs q).toPCfg_adm

def pdats : (p : Fin 1) → (c : Dev nD) → Dat τ (Elt F) (HIx 1) ℕ UU ℕ (Pipeline.pin (pcfgs (F := F)) adm p) c
  | ⟨0, _⟩ => fun c => hdat Vv bnd c

/-- The result's array after the call. -/
theorem arr_out (c : Dev nD) : (hdat Vv bnd c).arrAt 13 cfg1.N = headOf Vv c := by
  funext i
  exact ((hdat Vv bnd c).arrAt_emb_eq_after_last (13 : Fin 14) t1_0 (by decide +kernel) i).trans rfl

/-- What the TensorCore owes around the call: nothing, with its recorded waits low. -/
abbrev owesLow (c : Dev nD) : sProp 𝕄 :=
  iprop(∃ W, ⌜(K (F := F)).WBelow (T c) W bnd⌝ ∗ owes (T c) (0 : CellTallies nD τ sig (HIx 1)) W)

variable (Vp : (c : Dev nD) → (b : Ref sig .tc) → Buf (Elt F) ((c : Thread nD τ).loc b))

set_option backward.isDefEq.respectTransparency.types false in
def reg (hVp_out : ∀ c, Vp c main_v1 = headOf Vv c)
    (hVp_ne : ∀ c (b : Ref sig .tc), b ≠ main_v1 → Vp c b = Vv c b) :
    Pipeline.RegionSeg (pcfgs (F := F)) adm (pdats Vv bnd) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation Vv bnd c).loose
  hwaits := Pipeline.hwaits_of_owed_zero _ _ _ _ _ _ 0 fun _ _ => rfl
  pre c := iprop(unscopedBufs c (Vv c) ∗ owesLow (F := F) bnd c)
  post c := iprop(unscopedBufs c (Vp c) ∗ owesLow (F := F) bnd c)
  X _ := BI.emp
  Y _ := BI.emp
  Z c := Pipeline.unscopedRest (Ix := HIx 1) (Name := ℕ) (U := UU) (Lvl := ℕ) spec1 c (Vv c)
  hentry c := by
    rw [Pipeline.ownSems0_none]
    have hsplit := Pipeline.arrays_of_unscopedBufs (p := 0) (pcfgs (F := F)) adm (pdats Vv bnd) (launch1).win (launch1).arr_whole c
      ((pdats Vv bnd 0 c).share_full fun _ => rfl) (Vv c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats Vv bnd 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats Vv bnd 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats Vv bnd) ((pdats Vv bnd 0 c).share_full fun _ => rfl) (Vv c) (Vp c) ((pdats Vv bnd 0 c).arrAt · cfg1.N)
      (fun w => by
        fin_cases w
        · exact ((pdats Vv bnd 0 c).arrAt_in 0 rfl _).trans (hVp_ne c main_v0_0 (by decide)).symm
        · exact ((pdats Vv bnd 0 c).arrAt_in 1 rfl _).trans (hVp_ne c main_v0_1 (by decide)).symm
        · exact ((pdats Vv bnd 0 c).arrAt_in 2 rfl _).trans (hVp_ne c main_v0_2 (by decide)).symm
        · exact ((pdats Vv bnd 0 c).arrAt_in 3 rfl _).trans (hVp_ne c main_arg2 (by decide)).symm
        · exact ((pdats Vv bnd 0 c).arrAt_in 4 rfl _).trans (hVp_ne c main_arg3 (by decide)).symm
        · exact ((pdats Vv bnd 0 c).arrAt_in 5 rfl _).trans (hVp_ne c main_arg4 (by decide)).symm
        · exact ((pdats Vv bnd 0 c).arrAt_in 6 rfl _).trans (hVp_ne c main_arg5 (by decide)).symm
        · exact ((pdats Vv bnd 0 c).arrAt_in 7 rfl _).trans (hVp_ne c main_arg6 (by decide)).symm
        · exact ((pdats Vv bnd 0 c).arrAt_in 8 rfl _).trans (hVp_ne c main_arg7 (by decide)).symm
        · exact ((pdats Vv bnd 0 c).arrAt_in 9 rfl _).trans (hVp_ne c main_arg8 (by decide)).symm
        · exact ((pdats Vv bnd 0 c).arrAt_in 10 rfl _).trans (hVp_ne c main_arg9 (by decide)).symm
        · exact ((pdats Vv bnd 0 c).arrAt_in 11 rfl _).trans (hVp_ne c main_arg10 (by decide)).symm
        · exact ((pdats Vv bnd 0 c).arrAt_in 12 rfl _).trans (hVp_ne c main_arg11 (by decide)).symm
        · exact (arr_out Vv bnd c).trans (hVp_out c).symm)
      (fun b hb => hVp_ne c b fun h => hb (h ▸ Finset.mem_image.mpr ⟨13, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.Pool

end
-- ==== Proof.Launch.lean ====
module

public import proofs.«01_k».proof.Proof.Tile
public import proofs.«01_k».proof.Proof.Region

/-!
# The launch: the thirty-two tiles, then the head on the TensorCore

Every tile is given its share of the rows and of the segment numbers and its part of each of the three partial results. The
parts make up the whole arrays, which the head then reads; the head leaves its result in the last array.
-/

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellsGhost toksInit pin)

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the launch hands out and takes back -/

/-- The tile of core `c` and subcore `i`. -/
abbrev tn (c : Fin 2) (i : Fin 16) : Fin 32 := ⟨2 * i.val + c.val, by omega⟩

/-- A tile's resources before it runs, and after. -/
abbrev resIn (d : Dev nD) (w : Fin 32) : sProp 𝕄 := tileRes d w (m (xLoc d)) (m (gLoc d)) (m (pmLoc d)) (m (psLoc d)) (m (pcLoc d))
abbrev resOut (d : Dev nD) (w : Fin 32) : sProp 𝕄 :=
  tileRes d w (m (xLoc d)) (m (gLoc d)) (partMax (m (xLoc d)) (m (gLoc d))) (partSum (m (xLoc d)) (m (gLoc d))) (partCnt (m (xLoc d)) (m (gLoc d)))

def P : (K (F := F)).Pay (nD := nD) (Val := Elt F) (Name := ℕ) (U := UU) where
  st := fun q d c => match q with | 0 => bigSep Finset.univ fun i : Fin 16 => resIn m d (tn (Fin.cast nCore_zero c) i)
  dn := fun q d c => match q with | 0 => bigSep Finset.univ fun i : Fin 16 => resOut m d (tn (Fin.cast nCore_zero c) i)
  go := fun q d c i => match q with | 0 => resIn m d (tn (Fin.cast nCore_zero c) (Fin.cast nSub_zero i))
  td := fun q d c i => match q with | 0 => resOut m d (tn (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => resIn m d (tn (Fin.cast nCore_zero c) i)))
  dn q d c := match q with
    | 0 => (inferInstance : BI.Storable (upEmb : UEmb _ 𝕄) (bigSep Finset.univ fun i : Fin 16 => resOut m d (tn (Fin.cast nCore_zero c) i)))
  go q d c i := match q with
    | 0 => (inferInstance : BI.Storable (upEmb : UEmb _ 𝕄) (resIn m d (tn (Fin.cast nCore_zero c) (Fin.cast nSub_zero i))))
  td q d c i := match q with
    | 0 => (inferInstance : BI.Storable (upEmb : UEmb _ 𝕄) (resOut m d (tn (Fin.cast nCore_zero c) (Fin.cast nSub_zero i))))

/-- What the proof asks of the launch memory: every segment number is below 64. -/
def PreOK : Prop := ∀ (d : Dev nD) (j : S50000.Idx), (m (gLoc d) j).toNat < 64

/-! ## The task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          (Memref.whole main_arg0_scv) (Memref.isWhole_whole _) (Memref.whole main_arg1_scv) (Memref.isWhole_whole _)
          (Memref.whole main_v0_0_scv) (Memref.isWhole_whole _) (Memref.whole main_v0_1_scv) (Memref.isWhole_whole _)
          (Memref.whole main_v0_2_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          cc0_scoped0 cc0_scoped1 cc0_scoped2 cc0_scoped3 cc0_scoped4 cc0_scoped5 cc0_scoped6) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (m (xLoc d)) (m (gLoc d)) (hpre d) (m (pmLoc d)) (m (psLoc d)) (m (pcLoc d)) O W hO).trans
    (wp_mono frame _ _ fun _ => obl_post)

theorem vecSplit : (K (F := F)).VecSplit' (P m) 0 := by
  intro d c
  show iprop(bigSep Finset.univ fun i : Fin 16 => resIn m d (tn (Fin.cast nCore_zero c) i)) ⊢ |={Set.univ}=> iprop(
      (bigSep Finset.univ fun i : Fin 16 => resIn m d (tn (Fin.cast nCore_zero c) i))
      ∗ ((bigSep Finset.univ fun i : Fin 16 => resOut m d (tn (Fin.cast nCore_zero c) i))
          -∗ iprop(bigSep Finset.univ fun i : Fin 16 => resOut m d (tn (Fin.cast nCore_zero c) i))))
  iintro H; imodintro
  isplitl [H]; · iexact H
  iintro H; iexact H

/-! ## The parts make up the whole -/

omit [FloatOps F] in
theorem bigSep_tiles (Φ : Fin 32 → sProp 𝕄) :
    (bigSep Finset.univ fun c : Fin 2 => bigSep Finset.univ fun i : Fin 16 => Φ (tn c i)) = bigSep Finset.univ Φ := by
  rw [bigSep_univ_equiv ((Equiv.prodComm (Fin 2) (Fin 16)).trans (finProdFinEquiv (m := 16) (n := 2))) Φ, bigSep_univ_prod]
  refine bigSep_congr fun c _ => bigSep_congr fun i _ => congrArg Φ (Fin.ext ?_)
  simp [finProdFinEquiv, Nat.add_comm]

omit [FloatOps F] in
theorem pm_parts (d : Dev nD) (f : Buf (Elt F) (pmLoc d)) : (pmLoc d ↦{fullShare} f : sProp 𝕄) = bigSep Finset.univ fun w : Fin 32 => pmrow d w f := by
  rw [← pointsTo_biUnion Finset.univ (ℓ := pmLoc d) (fun w => (prow w).set) (fun i _ j _ h => Rect.part_disjoint pdiv h), Rect.biUnion_part pdiv]; try rfl
omit [FloatOps F] in
theorem ps_parts (d : Dev nD) (f : Buf (Elt F) (psLoc d)) : (psLoc d ↦{fullShare} f : sProp 𝕄) = bigSep Finset.univ fun w : Fin 32 => psrow d w f := by
  rw [← pointsTo_biUnion Finset.univ (ℓ := psLoc d) (fun w => (prow w).set) (fun i _ j _ h => Rect.part_disjoint pdiv h), Rect.biUnion_part pdiv]; try rfl
omit [FloatOps F] in
theorem pc_parts (d : Dev nD) (f : Buf (Elt F) (pcLoc d)) : (pcLoc d ↦{fullShare} f : sProp 𝕄) = bigSep Finset.univ fun w : Fin 32 => pcrow d w f := by
  rw [← pointsTo_biUnion Finset.univ (ℓ := pcLoc d) (fun w => (crow w).set) (fun i _ j _ h => Rect.part_disjoint cdiv h), Rect.biUnion_part cdiv]; try rfl

omit [FloatOps F] in
/-- The thirty-two tiles' resources are the five arrays. -/
theorem tiles_all (d : Dev nD) (x : Buf (Elt F) (xLoc d)) (g : Buf (Elt F) (gLoc d)) (pm : Buf (Elt F) (pmLoc d)) (ps : Buf (Elt F) (psLoc d))
    (pc : Buf (Elt F) (pcLoc d)) :
    (bigSep Finset.univ fun w : Fin 32 => tileRes d w x g pm ps pc)
      = (iprop((xLoc d ↦{fullShare} x) ∗ (gLoc d ↦{fullShare} g) ∗ (pmLoc d ↦{fullShare} pm) ∗ (psLoc d ↦{fullShare} ps) ∗ (pcLoc d ↦{fullShare} pc)) : sProp 𝕄) := by
  rw [pm_parts, ps_parts, pc_parts, ShareLeaves.pointsTo_leaves Finset.univ x 5 fullShare, ShareLeaves.pointsTo_leaves Finset.univ g 5 fullShare]
  rw [bigSep_sep', bigSep_sep', bigSep_sep', bigSep_sep']
  rfl

theorem st0_eq (d : Dev nD) : (bigSep Finset.univ fun c : Fin ((K (F := F)).nCore 0) => (P m).st 0 d c)
    = (iprop((xLoc d ↦{fullShare} m (xLoc d)) ∗ (gLoc d ↦{fullShare} m (gLoc d)) ∗ (pmLoc d ↦{fullShare} m (pmLoc d)) ∗ (psLoc d ↦{fullShare} m (psLoc d))
        ∗ (pcLoc d ↦{fullShare} m (pcLoc d))) : sProp 𝕄) :=
  (bigSep_tiles (fun w => resIn m d w)).trans (tiles_all d _ _ _ _ _)

theorem dn0_eq (d : Dev nD) : (bigSep Finset.univ fun c : Fin ((K (F := F)).nCore 0) => (P m).dn 0 d c)
    = (iprop((xLoc d ↦{fullShare} m (xLoc d)) ∗ (gLoc d ↦{fullShare} m (gLoc d)) ∗ (pmLoc d ↦{fullShare} partMax (m (xLoc d)) (m (gLoc d)))
        ∗ (psLoc d ↦{fullShare} partSum (m (xLoc d)) (m (gLoc d))) ∗ (pcLoc d ↦{fullShare} partCnt (m (xLoc d)) (m (gLoc d)))) : sProp 𝕄) :=
  (bigSep_tiles (fun w => resOut m d w)).trans (tiles_all d _ _ _ _ _)

/-! ## The memory after the tiles, and after the head -/

/-- The TensorCore's arrays after the tiles: the partial results are there. -/
def afterTiles (d : Dev nD) : (b : Ref sig .tc) → Buf (Elt F) ((d.tc : Thread nD τ).loc b) :=
  Function.update (Function.update (Function.update (fun b => m ((d.tc : Thread nD τ).loc b))
    main_v0_0 (partMax (m (xLoc d)) (m (gLoc d)))) main_v0_1 (partSum (m (xLoc d)) (m (gLoc d)))) main_v0_2 (partCnt (m (xLoc d)) (m (gLoc d)))

/-- And after the head. -/
def afterHead (d : Dev nD) : (b : Ref sig .tc) → Buf (Elt F) ((d.tc : Thread nD τ).loc b) :=
  Function.update (afterTiles m d) main_v1 (headOf (afterTiles m) d)

theorem afterTiles_ne (d : Dev nD) (b : Ref sig .tc) (h0 : b ≠ main_v0_0) (h1 : b ≠ main_v0_1) (h2 : b ≠ main_v0_2) :
    afterTiles m d b = m ((d.tc : Thread nD τ).loc b) := by
  unfold afterTiles; rw [Function.update_of_ne h2, Function.update_of_ne h1, Function.update_of_ne h0]
theorem afterTiles_0 (d : Dev nD) : afterTiles m d main_v0_0 = partMax (m (xLoc d)) (m (gLoc d)) := by
  unfold afterTiles; rw [Function.update_of_ne (by decide), Function.update_of_ne (by decide), Function.update_self]
theorem afterTiles_1 (d : Dev nD) : afterTiles m d main_v0_1 = partSum (m (xLoc d)) (m (gLoc d)) := by
  unfold afterTiles; rw [Function.update_of_ne (by decide), Function.update_self]
theorem afterTiles_2 (d : Dev nD) : afterTiles m d main_v0_2 = partCnt (m (xLoc d)) (m (gLoc d)) := by
  unfold afterTiles; rw [Function.update_self]

/-! ## The launch element of the certificate's ghost state -/

def u₀ : UU := (initOf (K (F := F)).hsCells (K (F := F)).hsToks,
  (initOf (Pipeline.cells (pin (pcfgs (F := F)) adm) cellOf_inj) (Pipeline.launchToks (pin (pcfgs (F := F)) adm) cellOf_inj), 1))

/-- What the head's call is given at the launch. -/
abbrev G (d : Dev nD) : sProp 𝕄 :=
  iprop(cellsGhost (pin (pcfgs (F := F)) adm) EP 0 d ∗ toksInit (pin (pcfgs (F := F)) adm) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave H := (show _ ⊢ iprop(BI.own ((EP (F := F)) (initOf (Pipeline.cells (pin (pcfgs (F := F)) adm) cellOf_inj) (Pipeline.launchToks (pin (pcfgs (F := F)) adm) cellOf_inj)))
      ∗ BI.own (((Emb.inr : Emb Counters (UR sig nD τ × Counters)).trans embR) 1)) from own_pair_emb (embR) (initOf (Pipeline.cells (pin (pcfgs (F := F)) adm) cellOf_inj) (Pipeline.launchToks (pin (pcfgs (F := F)) adm) cellOf_inj)) (1 : Counters)) $$ HR
  icases H with ⟨HP, -⟩
  imod (Pipeline.fund_ghost (pin (pcfgs (F := F)) adm) (EP (F := F)) cellOf_inj) $$ HP with ⟨Hg, Ht⟩
  imodintro
  isplitl [HH]; · iexact HH
  isplitr []
  · rw [show (bigSep Finset.univ (G (F := F)) : sProp 𝕄) = iprop((bigSep Finset.univ fun c : Dev nD => bigSep Finset.univ fun p : Fin 1 => cellsGhost (pin (pcfgs (F := F)) adm) EP p c)
        ∗ (bigSep Finset.univ fun c : Dev nD => bigSep Finset.univ fun p : Fin 1 => toksInit (pin (pcfgs (F := F)) adm) EP p c)) from by
      rw [← bigSep_sep']
      refine bigSep_congr fun c _ => ?_
      rw [bigSep_univ_of_subsingleton (0 : Fin 1), bigSep_univ_of_subsingleton (0 : Fin 1)]]
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The TensorCore's arrays, one by one -/

omit [FloatOps F] in
theorem sep_assoc_of (A B C : sProp 𝕄) : iprop((A ∗ B) ∗ C) = iprop(A ∗ B ∗ C) := BI.Entails.antisymm BI.sep_assoc BI.sep_assoc'

omit [FloatOps F] in
theorem unscopedBufs_eq (d : Dev nD) (W : (b : Ref sig .tc) → Buf (Elt F) ((d.tc : Thread nD τ).loc b)) :
    (unscopedBufs d W : sProp 𝕄) = iprop(((xLoc d ↦{fullShare} W main_arg0) ∗ (gLoc d ↦{fullShare} W main_arg1) ∗ (pmLoc d ↦{fullShare} W main_v0_0)
        ∗ (psLoc d ↦{fullShare} W main_v0_1) ∗ (pcLoc d ↦{fullShare} W main_v0_2))
      ∗ bigSep {main_arg2, main_arg3, main_arg4, main_arg5, main_arg6, main_arg7, main_arg8, main_arg9, main_arg10, main_arg11, main_v1} fun b : Ref sig .tc => ((d.tc : Thread nD τ).loc b) ↦{fullShare} W b) := by
  unfold unscopedBufs
  rw [show (Finset.univ.filter fun b : Ref sig .tc => ¬ b.isScoped) = {main_arg0, main_arg1, main_v0_0, main_v0_1, main_v0_2, main_arg2, main_arg3, main_arg4, main_arg5, main_arg6, main_arg7, main_arg8, main_arg9, main_arg10, main_arg11, main_v1} by decide,
    SparseCore.bigSep_insert' (by decide), SparseCore.bigSep_insert' (by decide), SparseCore.bigSep_insert' (by decide), SparseCore.bigSep_insert' (by decide), SparseCore.bigSep_insert' (by decide)]
  simp only [sep_assoc_of]

theorem after_tiles (d : Dev nD) :
    iprop(((xLoc d ↦{fullShare} m (xLoc d)) ∗ (gLoc d ↦{fullShare} m (gLoc d)) ∗ (pmLoc d ↦{fullShare} partMax (m (xLoc d)) (m (gLoc d)))
        ∗ (psLoc d ↦{fullShare} partSum (m (xLoc d)) (m (gLoc d))) ∗ (pcLoc d ↦{fullShare} partCnt (m (xLoc d)) (m (gLoc d))))
      ∗ bigSep {main_arg2, main_arg3, main_arg4, main_arg5, main_arg6, main_arg7, main_arg8, main_arg9, main_arg10, main_arg11, main_v1} fun b : Ref sig .tc => ((d.tc : Thread nD τ).loc b) ↦{fullShare} m ((d.tc : Thread nD τ).loc b))
    ⊢ (unscopedBufs d (afterTiles m d) : sProp 𝕄) := by
  rw [unscopedBufs_eq, afterTiles_0, afterTiles_1, afterTiles_2, afterTiles_ne m d main_arg0 (by decide) (by decide) (by decide), afterTiles_ne m d main_arg1 (by decide) (by decide) (by decide)]
  refine sep_mono_right (Entails.of_eq (bigSep_congr fun b hb => ?_))
  rw [afterTiles_ne m d b (by rintro rfl; revert hb; decide) (by rintro rfl; revert hb; decide) (by rintro rfl; revert hb; decide)]

/-! ## The TensorCore's program -/

abbrev FIN (d : Dev nD) : sProp 𝕄 := unscopedBufs d (afterHead m d)

theorem Otc_one (d : Dev nD) : (K (F := F)).Otc d 1 = 0 := by
  unfold SparseCore.Cfg.Otc; exact Finset.sum_eq_zero fun q _ => if_neg (by omega)

abbrev bnd1 : ℕ := 8 * SparseCore.Cfg.Blocks.fst 1 1 1

theorem head_prog : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) .ret : Prog (TpuEff nD τ sig (Elt F) (ΛP (F := F)) .tc) PUnit) := rfl

/-- The head's call as a region: from the arrays the tiles left to the arrays with its result. -/
def headReg : Pipeline.RegionSeg (pcfgs (F := F)) adm (pdats (afterTiles m) bnd1) (none : HIx 1) defs₀ 𝒱₀ (K (F := F)).L (K (F := F)).lev 0 :=
  reg (afterTiles m) bnd1 (afterHead m) (fun c => Function.update_self ..) (fun c b hb => Function.update_of_ne hb ..)
theorem headReg_pre (d : Dev nD) : (headReg m).pre d = (iprop(unscopedBufs d (afterTiles m d) ∗ owesLow (F := F) bnd1 d) : sProp 𝕄) := rfl
theorem headReg_post (d : Dev nD) : (headReg m).post d = (iprop(unscopedBufs d (afterHead m d) ∗ owesLow (F := F) bnd1 d) : sProp 𝕄) := rfl

/-- The head's call, from the arrays the tiles left. -/
theorem head_call [∀ e, Nonempty (Elt F e)] (d : Dev nD) :
    iprop((boundary (T d) ∗ unscopedBufs d (afterTiles m d) ∗ owesLow (F := F) bnd1 d) ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ()) : Prog (TpuEff nD τ sig (Elt F) (SparseCore.Sig (ΛP (F := F)) 1) .tc) PUnit)
          fun _ => iprop(boundary (T d) ∗ unscopedBufs d (afterHead m d) ∗ owesLow (F := F) bnd1 d) := by
  rw [head_prog (F := F)]
  refine BI.Entails.trans ?_ ((K (F := F)).wp_liftProg (D (F := F)) 𝒱 (SparseCore.T d) Set.univ none _ _)
  refine BI.Entails.trans ?_ (Pipeline.RegionSeg.wp (pcfgs (F := F)) adm (pdats (afterTiles m) bnd1) none cellOf_inj EP defs₀ 𝒱₀ (K (F := F)).L (K (F := F)).lev
    (headReg m) d none (fun _ h => nomatch h) .ret _)
  rw [headReg_pre, headReg_post]
  change (_ : sProp 𝕄) ⊢ (_ : sProp 𝕄)
  iintro ⟨⟨Hb, Hub, HO⟩, #Hlv, Hg, Ht⟩
  isplitr [Hb Hub HO Hg Ht]
  · rw [wp_ret]
    iintro ⟨Hb, Hub, HO⟩
    imodintro
    isplitl [Hb]; · iexact Hb
    isplitl [Hub]; · iexact Hub
    iexact HO
  isplitl [Hb]; · iexact Hb
  isplitl [Hub HO]
  · isplitl [Hub]; · iexact Hub
    iexact HO
  isplitr; · iexact Hlv
  isplitl [Hg]; · iexact Hg
  iexact Ht

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hin, Hrest⟩, Hts, -⟩, HG⟩
  iapply ((K (F := F)).wp_run (D (F := F)) 𝒱 (EH := EH) (P := P m) κ d 0) $$ [Hst Hin Hrest Hb Hts HG]
  isplitr; · iexact Hctx
  isplitl [Hst]; · iexact Hst
  isplitl [Hin]
  · rw [st0_eq]; iexact Hin
  iintro ⟨Hst, Hdn⟩
  ihave Hdn' := (Entails.of_eq (dn0_eq m d)) $$ Hdn
  ihave Hub := (after_tiles m d) $$ [Hdn' Hrest]
  · isplitl [Hdn'] <;> iassumption
  ihave Hlv := (SparseCore.Cfg.ctx_levAts κ) $$ Hctx
  ihave Hst' := (show (K (F := F)).tcSt EH d ((0 : Fin 1).val + 1) ⊢ iprop(owesLow (F := F) bnd1 d ∗ (owesLow (F := F) bnd1 d -∗ (K (F := F)).tcSt EH d 1)) from by
    unfold SparseCore.Cfg.tcSt
    rw [show (0 : Fin 1).val + 1 = 1 from rfl, Otc_one]
    iintro ⟨HO, Hr⟩
    isplitl [HO]; · iexact HO
    iintro HO
    isplitl [HO]; · iexact HO
    iexact Hr) $$ Hst
  icases Hst' with ⟨HO, Hback⟩
  iapply (wp_wand_r frame _ _) $$ [Hb Hub HO HG Hback Hts]
  isplitl [Hb Hub HO HG]
  · iapply (head_call m d)
    isplitl [Hb Hub HO]
    · isplitl [Hb]; · iexact Hb
      isplitl [Hub]; · iexact Hub
      iexact HO
    isplitr; · iexact Hlv
    iexact HG
  iintro %_ ⟨Hb, Hub, HO⟩
  imodintro
  isplitl [HO Hback]
  · iapply Hback; iexact HO
  isplitl [Hub]; · iexact Hub
  isplitl [Hb] <;> iassumption

/-! ## The final memory -/

def fq (d : Dev nD) (s' : Phys nD τ sig (Elt F)) : Prop :=
  ∀ b : Ref sig .tc, ¬ b.isScoped → s'.mem.mem ((d.tc : Thread nD τ).loc b) = afterHead m d b

theorem hfin (d : Dev nD) (s' : Phys nD τ sig (Elt F)) : iprop(FIN m d ∗ SI s') ⊢ (⌜fq m d s'⌝ : sProp 𝕄) := by
  have key (b : Ref sig .tc) (hb : ¬ b.isScoped) :
      iprop(FIN m d ∗ SI s') ⊢ (⌜s'.mem.mem ((d.tc : Thread nD τ).loc b) = afterHead m d b⌝ : sProp 𝕄) := by
    have h1 : (FIN m d : sProp 𝕄) ⊢ (((d.tc : Thread nD τ).loc b) ↦{fullShare} afterHead m d b) := by
      unfold FIN unscopedBufs
      exact bigSep_elim (Φ := fun b : Ref sig .tc => (((d.tc : Thread nD τ).loc b) ↦{fullShare} afterHead m d b : sProp 𝕄)) (Finset.mem_filter.mpr ⟨Finset.mem_univ b, hb⟩)
    iintro ⟨HF, HSI⟩
    ihave Hp := h1 $$ HF
    ihave H := (SI_pointsTo_agree (st := s') (ℓ := (d.tc : Thread nD τ).loc b) (I := Finset.univ) (q := fullShare) (f := afterHead m d b)) $$ [HSI Hp]
    · isplitl [HSI] <;> iassumption
    icases H with %h2
    ipureintro; exact funext fun i => h2 i (Finset.mem_univ i)
  by_cases h : fq m d s'
  · iintro -; ipureintro; exact h
  · unfold fq at h
    obtain ⟨b, hb⟩ := not_forall.mp h
    obtain ⟨hs, hne⟩ := Classical.not_imp.mp hb
    iintro H
    ihave H' := (key b hs) $$ H
    icases H' with %h2
    exact absurd h2 hne

def QC : PUnit × MemSt nD τ sig (Elt F) → Prop := fun r =>
  (∀ (c : Dev nD) (b : Ref sig .tc), ¬ b.isScoped → r.2.mem ((c.tc : Thread nD τ).loc b) = afterHead m c b) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.Pool

end
-- ==== Proof.Frames.lean ====
module

public import proofs.«01_k».proof.Proof.Launch

/-!
# The frames: the arguments end as they were, every counter at zero
-/

@[expose] public section

noncomputable section

namespace Cert.Proof.Pool

open Cert.KernelIdeal Cert.KernelIdeal.Gen
open Idealize.ShloMosaic Idealize.SL.Sem

variable {F : FTy → Type} [FloatOps F]
variable (m : (ℓ : Loc nD τ sig) → Buf (Elt F) ℓ)

/-- An array that neither the tiles nor the head write ends as it was. -/
theorem kept {r : PUnit × MemSt nD τ sig (Elt F)} (h : QC m r) (c : Dev nD) (b : Ref sig .tc) (hs : ¬ b.isScoped) (h0 : b ≠ main_v0_0) (h1 : b ≠ main_v0_1)
    (h2 : b ≠ main_v0_2) (h3 : b ≠ main_v1) : r.2.mem ((c.tc : Thread nD τ).loc b) = m ((c.tc : Thread nD τ).loc b) :=
  ((h.1 c b hs).trans (Function.update_of_ne h3 ..)).trans (afterTiles_ne m c b h0 h1 h2)

/-- The arguments end as they were. -/
theorem args_kept {r : PUnit × MemSt nD τ sig (Elt F)} (h : QC m r) (c : Dev nD) :
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) :=
  ⟨kept m h c main_arg0 (by decide) (by decide) (by decide) (by decide) (by decide), kept m h c main_arg1 (by decide) (by decide) (by decide) (by decide) (by decide), kept m h c main_arg2 (by decide) (by decide) (by decide) (by decide) (by decide), kept m h c main_arg3 (by decide) (by decide) (by decide) (by decide) (by decide), kept m h c main_arg4 (by decide) (by decide) (by decide) (by decide) (by decide), kept m h c main_arg5 (by decide) (by decide) (by decide) (by decide) (by decide), kept m h c main_arg6 (by decide) (by decide) (by decide) (by decide) (by decide), kept m h c main_arg7 (by decide) (by decide) (by decide) (by decide) (by decide), kept m h c main_arg8 (by decide) (by decide) (by decide) (by decide) (by decide), kept m h c main_arg9 (by decide) (by decide) (by decide) (by decide) (by decide), kept m h c main_arg10 (by decide) (by decide) (by decide) (by decide) (by decide), kept m h c main_arg11 (by decide) (by decide) (by decide) (by decide) (by decide)⟩

/-- What the head leaves, from the weights as given and the tiles' partial results. -/
theorem result {r : PUnit × MemSt nD τ sig (Elt F)} (h : QC m r) (c : Dev nD) :
    r.2.mem ((c.tc : Thread nD τ).loc main_v1) = headVal (partMax (m (xLoc c)) (m (gLoc c))) (partSum (m (xLoc c)) (m (gLoc c))) (partCnt (m (xLoc c)) (m (gLoc c)))
      (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine ((h.1 c main_v1 (by decide)).trans (Function.update_self ..)).trans ?_
  unfold headOf
  rw [afterTiles_0, afterTiles_1, afterTiles_2]
  rw [afterTiles_ne m c main_arg2 (by decide) (by decide) (by decide), afterTiles_ne m c main_arg3 (by decide) (by decide) (by decide), afterTiles_ne m c main_arg4 (by decide) (by decide) (by decide), afterTiles_ne m c main_arg5 (by decide) (by decide) (by decide), afterTiles_ne m c main_arg6 (by decide) (by decide) (by decide), afterTiles_ne m c main_arg7 (by decide) (by decide) (by decide), afterTiles_ne m c main_arg8 (by decide) (by decide) (by decide), afterTiles_ne m c main_arg9 (by decide) (by decide) (by decide), afterTiles_ne m c main_arg10 (by decide) (by decide) (by decide), afterTiles_ne m c main_arg11 (by decide) (by decide) (by decide)]

/-! ## The preconditions read at the segment numbers -/

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

/-- A word between 0 and 63 as a signed number is one below 64. -/
theorem in_range (v : BitVec 32) (e : IntOp.andi (IntOp.cmpi .sge v 0#32) (IntOp.cmpi .slt v 64#32) = 1#1) : v.toNat < 64 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- `ids_in_range` gives what the run asks of the launch memory. -/
theorem ok_in_range [Cert.Pre_ids_in_range.Facts]
    (h : ∀ c : Dev nD, Cert.Pre_ids_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = fun _ => 1#1) : PreOK m := by
  intro c j
  have e := congrFun (h c) j
  simp only [Cert.Pre_ids_in_range.fn, andi, cmpi, broadcastInDim, constantI] at e
  exact in_range _ e

/-- So does `ids_sorted_in_range`. -/
theorem ok_sorted [Cert.Pre_ids_sorted_in_range.Facts]
    (h : ∀ c : Dev nD, (Cert.Pre_ids_sorted_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))).1 = fun _ => 1#1) : PreOK m := by
  intro c j
  have e := congrFun (h c) j
  simp only [Cert.Pre_ids_sorted_in_range.fn, andi, cmpi, broadcastInDim, constantI] at e
  exact in_range _ e

end Cert.Proof.Pool

end
-- ==== Proof.Same.lean ====
module

public import proofs.«01_k».proof.Proof.Frames
public import proofs.«01_k».proof.Defs
public import proofs.«01_k».proof.Proof.Gen.Kernel

/-!
# The two printed programs are one

No operation was rewritten, so the kernel over words and the kernel over the extended reals define the
same programs; the definitions agree label by label.
-/

@[expose] public section

open Idealize.ShloMosaic Idealize.SL.Sem

noncomputable section

namespace Cert.Proof.Pool

attribute [local instance] Cert.Kernel.Gen.facts Cert.KernelIdeal.Gen.facts

variable {F : FTy → Type} [FloatOps F]

theorem same_bodies : Cert.Kernel.defs₀ (F := F) = Cert.KernelIdeal.defs₀ (F := F) := by
  funext p ℓ a
  match p, ℓ, a with
  | .scVector c s, 0, _ => rfl
  | .scVector c s, 1, _ => rfl
  | .tc, 1, (t, s) => rfl
  | .tc, 0, _ => rfl
  | .scScalar c, 0, _ => rfl
  | .scScalar c, 1, _ => rfl

theorem same_defs : Cert.Kernel.defs (F := F) = Cert.KernelIdeal.defs (F := F) :=
  congrArg (fun D => Cert.KernelIdeal.sc.defs (Pipeline.defs Cert.KernelIdeal.pcfgs D)) (same_bodies (F := F))

end Cert.Proof.Pool

end
-- ==== Proof.Sums.lean ====
module

public import proofs.«01_k».proof.Proof.Model
public import Idealize.ShloMosaic.PureOps.Ideal
public import Idealize.ShloMosaic.Lib.Pointwise

/-!
# What a tile computes, over the extended reals

With segment numbers that do not decrease, a group whose first and last row agree has one segment number
throughout, so folding it in at once is folding its sixteen rows. The arrays are then, segment by segment, the
greatest, the sum and the number of the tile's rows; over all tiles, of all rows.
-/

@[expose] public section

noncomputable section

namespace Cert.Proof.Pool

open Cert.KernelIdeal Cert.KernelIdeal.Gen
open Idealize.ShloMosaic

/-! ## Bits -/

theorem bits_negInf : (FloatOps.ofBits .f32 0xFF800000#32 : Ideal .f32) = ⊥ := by
  show Ideal.ofBits .f32 0xFF800000#32 = ⊥
  simp [Ideal.ofBits, Ideal.ieee]

theorem bits_zero : (FloatOps.ofBits .f32 0x00000000#32 : Ideal .f32) = 0 := by
  show Ideal.ofBits .f32 0x00000000#32 = 0
  simp [Ideal.ofBits, Ideal.ieee]

theorem bits_one : (one : Ideal .f32) = 1 := by
  show Ideal.ofBits .f32 0x3F800000#32 = ((1 : ℝ) : EReal)
  simp [Ideal.ofBits, Ideal.ieee, -EReal.coe_mul]; norm_num

theorem bits_sixteen : (sixteen : Ideal .f32) = ((16 : ℝ) : EReal) := by
  show Ideal.ofBits .f32 0x41800000#32 = ((16 : ℝ) : EReal)
  simp [Ideal.ofBits, Ideal.ieee, -EReal.coe_mul]; norm_num

/-! ## Greatest value and sum over consecutive rows -/

theorem sup_add (f : ℕ → EReal) (n k : ℕ) :
    (Finset.range (n + k)).sup f = (Finset.range n).sup f ⊔ (Finset.range k).sup fun l => f (n + l) := by
  induction k with
  | zero => simp
  | succ k ih => rw [← Nat.add_assoc, Finset.range_add_one, Finset.sup_insert, ih, Finset.range_add_one, Finset.sup_insert]; ac_rfl

theorem tree_max (u : ℕ → EReal) : tree (F := Ideal) (fun a b => max a b) u = (Finset.range 16).sup u := by
  simp only [tree, Finset.range_add_one, Finset.sup_insert, Finset.range_zero, Finset.sup_empty, bot_le, sup_of_le_left, sup_bot_eq]
  ac_rfl

theorem tree_sum (u : ℕ → EReal) : tree (F := Ideal) (fun a b : EReal => a + b) u = ∑ l ∈ Finset.range 16, u l := by
  simp only [tree, Finset.sum_range_succ, Finset.range_zero, Finset.sum_empty, zero_add]
  abel

theorem sixteen_ones : ∑ _l ∈ Finset.range 16, (1 : EReal) = ((16 : ℝ) : EReal) := by
  rw [show (1 : EReal) = ((1 : ℝ) : EReal) from rfl]
  simp only [Finset.sum_range_succ, Finset.range_zero, Finset.sum_empty, zero_add, ← EReal.coe_add]
  norm_num

theorem sup_fin (f : ℕ → EReal) (N : ℕ) : (Finset.univ.sup fun w : Fin N => f w) = (Finset.range N).sup f :=
  le_antisymm (Finset.sup_le fun w _ => Finset.le_sup (f := f) (Finset.mem_range.2 w.isLt))
    (Finset.sup_le fun w hw => Finset.le_sup (f := fun w : Fin N => f w) (Finset.mem_univ (⟨w, Finset.mem_range.1 hw⟩ : Fin N)))

variable (x : ℕ → Fin 512 → EReal) (g : ℕ → BitVec 32)

/-- Row `n`'s part in segment `s`: its value to the greatest, to the sum and to the count. -/
def toMax (s : ℕ) (c : Fin 512) (n : ℕ) : EReal := if (g n).toNat = s then x n c else ⊥
def toSum (s : ℕ) (c : Fin 512) (n : ℕ) : EReal := if (g n).toNat = s then x n c else 0
def toCnt (s : ℕ) (n : ℕ) : EReal := if (g n).toNat = s then 1 else 0

/-- The arrays hold the rows from `a` on, `k` of them. -/
structure Holds (a k : ℕ) (st : St Ideal) : Prop where
  mx : ∀ y, st.mx y = (Finset.range k).sup fun l => toMax x g (y 0).val (y 1) (a + l)
  sm : ∀ y, st.sm y = ∑ l ∈ Finset.range k, toSum x g (y 0).val (y 1) (a + l)
  ct : ∀ y, st.ct y = ∑ l ∈ Finset.range k, toCnt g (y 0).val (a + l)

theorem holds_st0 (a : ℕ) : Holds x g a 0 (st0 : St Ideal) :=
  ⟨fun _ => bits_negInf, fun _ => bits_zero, fun _ => bits_zero⟩

variable {x g}

theorem holds_row {a k : ℕ} {st : St Ideal} (h : Holds x g a k st) : Holds x g a (k + 1) (row x g (a + k) st) := by
  refine ⟨fun y => ?_, fun y => ?_, fun y => ?_⟩
  · rw [Finset.range_add_one, Finset.sup_insert, ← h.mx y]
    by_cases e : (g (a + k)).toNat = (y 0).val
    · have : (row x g (a + k) st).mx y = max (st.mx y) (x (a + k) (y 1)) := if_pos ⟨e.symm, (y 1).isLt⟩
      rw [this]; simp only [toMax, if_pos e]; exact max_comm _ _
    · have : (row x g (a + k) st).mx y = st.mx y := if_neg fun h => e h.1.symm
      rw [this]; simp only [toMax, if_neg e]; exact bot_sup_eq _ |>.symm
  · rw [Finset.sum_range_succ, ← h.sm y]
    by_cases e : (g (a + k)).toNat = (y 0).val
    · have : (row x g (a + k) st).sm y = st.sm y + x (a + k) (y 1) := if_pos ⟨e.symm, (y 1).isLt⟩
      rw [this]; simp only [toSum, if_pos e]
    · have : (row x g (a + k) st).sm y = st.sm y := if_neg fun h => e h.1.symm
      rw [this]; simp only [toSum, if_neg e, add_zero]
  · rw [Finset.sum_range_succ, ← h.ct y]
    by_cases e : (g (a + k)).toNat = (y 0).val
    · have : (row x g (a + k) st).ct y = st.ct y + one := if_pos e.symm
      rw [this, toCnt, if_pos e, bits_one]
    · have : (row x g (a + k) st).ct y = st.ct y := if_neg fun h => e h.symm
      rw [this, toCnt, if_neg e, add_zero]

theorem holds_rows {a k : ℕ} {st : St Ideal} (h : Holds x g a k st) (n : ℕ) : Holds x g a (k + n) (rows x g (a + k) n st) := by
  induction n with
  | zero => exact h
  | succ n ih =>
    show Holds x g a (k + n + 1) (row x g (a + k + n) (rows x g (a + k) n st))
    rw [Nat.add_assoc a k n]; exact holds_row ih

/-- A group all of one segment number, folded in at once. -/
theorem holds_fast {a k : ℕ} {st : St Ideal} (h : Holds x g a k st) (he : ∀ l, l < 16 → g (a + k + l) = g (a + k)) :
    Holds x g a (k + 16) (fast x g (a + k) st) := by
  refine ⟨fun y => ?_, fun y => ?_, fun y => ?_⟩
  · rw [sup_add, ← h.mx y]
    have e1 : ((Finset.range 16).sup fun l => toMax x g (y 0).val (y 1) (a + (k + l)))
        = (Finset.range 16).sup fun l => if (g (a + k)).toNat = (y 0).val then x (a + k + l) (y 1) else ⊥ :=
      Finset.sup_congr rfl fun l hl => by
        simp only [toMax]; rw [← Nat.add_assoc, he l (Finset.mem_range.1 hl)]
    rw [e1]
    by_cases e : (g (a + k)).toNat = (y 0).val
    · have : (fast x g (a + k) st).mx y = max (st.mx y) (tree (F := Ideal) (fun a b => max a b) fun l => x (a + k + l) (y 1)) :=
        if_pos ⟨e.symm, (y 1).isLt⟩
      rw [this, tree_max]; simp only [if_pos e]
    · have : (fast x g (a + k) st).mx y = st.mx y := if_neg fun h => e h.1.symm
      rw [this]; simp only [if_neg e]; simp
  · rw [Finset.sum_range_add, ← h.sm y]
    have e1 : (∑ l ∈ Finset.range 16, toSum x g (y 0).val (y 1) (a + (k + l)))
        = ∑ l ∈ Finset.range 16, if (g (a + k)).toNat = (y 0).val then x (a + k + l) (y 1) else 0 :=
      Finset.sum_congr rfl fun l hl => by
        simp only [toSum]; rw [← Nat.add_assoc, he l (Finset.mem_range.1 hl)]
    rw [e1]
    by_cases e : (g (a + k)).toNat = (y 0).val
    · have : (fast x g (a + k) st).sm y = st.sm y + tree (F := Ideal) (fun a b : EReal => a + b) fun l => x (a + k + l) (y 1) :=
        if_pos ⟨e.symm, (y 1).isLt⟩
      rw [this, tree_sum]; simp only [if_pos e]
    · have : (fast x g (a + k) st).sm y = st.sm y := if_neg fun h => e h.1.symm
      rw [this]; simp only [if_neg e]; simp
  · rw [Finset.sum_range_add, ← h.ct y]
    have e1 : (∑ l ∈ Finset.range 16, toCnt g (y 0).val (a + (k + l)))
        = ∑ _l ∈ Finset.range 16, if (g (a + k)).toNat = (y 0).val then 1 else 0 :=
      Finset.sum_congr rfl fun l hl => by
        rw [← Nat.add_assoc, toCnt, he l (Finset.mem_range.1 hl)]
    rw [e1]
    by_cases e : (g (a + k)).toNat = (y 0).val
    · have : (fast x g (a + k) st).ct y = st.ct y + sixteen := if_pos e.symm
      rw [this, bits_sixteen]; simp only [if_pos e]; rw [sixteen_ones]
    · have : (fast x g (a + k) st).ct y = st.ct y := if_neg fun h => e h.symm
      rw [this]; simp only [if_neg e]; simp

/-- The segment numbers of the rows below `N` do not decrease. -/
def Sorted (g : ℕ → BitVec 32) (N : ℕ) : Prop := ∀ a b, a ≤ b → b < N → (g a).toNat ≤ (g b).toNat

theorem holds_grp {N a k : ℕ} {st : St Ideal} (hg : Sorted g N) (hN : a + k + 16 ≤ N) (h : Holds x g a k st) :
    Holds x g a (k + 16) (grp x g (a + k) st) := by
  unfold grp
  split
  · rename_i e
    refine holds_fast h fun l hl => ?_
    have h1 := hg (a + k) (a + k + l) (by omega) (by omega)
    have h2 := hg (a + k + l) (a + k + 15) (by omega) (by omega)
    rw [← e] at h2
    exact BitVec.eq_of_toNat_eq (Nat.le_antisymm h2 h1)
  · exact holds_rows h 16

theorem holds_grps {N a : ℕ} (hg : Sorted g N) (k : ℕ) (hN : a + 16 * k ≤ N) :
    Holds x g a (16 * k) (grps x g a k (st0 : St Ideal)) := by
  induction k with
  | zero => exact holds_st0 x g a
  | succ k ih => exact holds_grp hg (by omega) (ih (by omega))

/-! ## All tiles -/

theorem firstChunk_succ (w : ℕ) : 80 * firstChunk (w + 1) = 80 * firstChunk w + 16 * (5 * nChunks w) := by
  unfold firstChunk nChunks; split <;> omega

theorem sum_tiles (f : ℕ → EReal) (W : ℕ) :
    ∑ w ∈ Finset.range W, ∑ l ∈ Finset.range (16 * (5 * nChunks w)), f (80 * firstChunk w + l) = ∑ n ∈ Finset.range (80 * firstChunk W), f n := by
  induction W with
  | zero => simp [firstChunk]
  | succ W ih => rw [Finset.sum_range_succ, ih, firstChunk_succ, Finset.sum_range_add]

theorem sup_tiles (f : ℕ → EReal) (W : ℕ) :
    ((Finset.range W).sup fun w => (Finset.range (16 * (5 * nChunks w))).sup fun l => f (80 * firstChunk w + l)) = (Finset.range (80 * firstChunk W)).sup f := by
  induction W with
  | zero => simp [firstChunk]
  | succ W ih => rw [Finset.range_add_one, Finset.sup_insert, ih, firstChunk_succ, sup_add, sup_comm]

theorem holds_tile (x : S50000x512.Idx → Ideal .f32) (g : S50000.Idx → BitVec 32) (hg : Sorted (segOf g) 50000) (w : Fin 32) :
    Holds (rowOf x) (segOf g) (80 * firstChunk w) (16 * (5 * nChunks w)) (tileSt x g w) := by
  refine holds_grps hg _ ?_
  rw [← firstChunk_succ]
  have := w.isLt
  unfold firstChunk; omega

section
variable (x : S50000x512.Idx → Ideal .f32) (g : S50000.Idx → BitVec 32)

/-- The greatest, the sum and the number of the rows of segment `s`. -/
def segMax (s : Fin 64) (c : Fin 512) : EReal := (Finset.range 50000).sup (toMax (rowOf x) (segOf g) s c)
def segSum (s : Fin 64) (c : Fin 512) : EReal := ∑ n ∈ Finset.range 50000, toSum (rowOf x) (segOf g) s c n
def segCnt (s : Fin 64) : EReal := ∑ n ∈ Finset.range 50000, toCnt (segOf g) s n

variable {g} (hg : Sorted (segOf g) 50000)
include hg

theorem all_max (s : Fin 64) (c : Fin 512) : (Finset.univ.sup fun w : Fin 32 => partMax x g (atP w s c)) = segMax x g s c := by
  have := sup_tiles (toMax (rowOf x) (segOf g) s c) 32
  refine Eq.trans ?_ this
  refine Eq.trans (Finset.sup_congr rfl fun w _ => (holds_tile x g hg w).mx (at64 s c)) ?_
  exact sup_fin (fun w => (Finset.range (16 * (5 * nChunks w))).sup fun l => toMax (rowOf x) (segOf g) s c (80 * firstChunk w + l)) 32

theorem all_sum (s : Fin 64) (c : Fin 512) : (∑ w : Fin 32, partSum x g (atP w s c)) = segSum x g s c := by
  refine Eq.trans ?_ (sum_tiles (toSum (rowOf x) (segOf g) s c) 32)
  refine Eq.trans (Finset.sum_congr rfl fun w _ => (holds_tile x g hg w).sm (at64 s c)) ?_
  exact Fin.sum_univ_eq_sum_range (fun w => ∑ l ∈ Finset.range (16 * (5 * nChunks w)), toSum (rowOf x) (segOf g) s c (80 * firstChunk w + l)) 32

theorem all_cnt (s : Fin 64) (l : Fin 16) : (∑ w : Fin 32, partCnt x g (atN w s l)) = segCnt g s := by
  refine Eq.trans ?_ (sum_tiles (toCnt (segOf g) s) 32)
  refine Eq.trans (Finset.sum_congr rfl fun w _ => (holds_tile x g hg w).ct (atC s l)) ?_
  exact Fin.sum_univ_eq_sum_range (fun w => ∑ l ∈ Finset.range (16 * (5 * nChunks w)), toCnt (segOf g) s (80 * firstChunk w + l)) 32

end

end Cert.Proof.Pool

end
-- ==== Proof.PoolRef.lean ====
module

public import proofs.«01_k».proof.Proof.Sums
public import proofs.«01_k».proof.Proof.Gen.ReferenceIdeal.Run

/-!
# The reference's pooling, over the extended reals
-/

@[expose] public section

noncomputable section

namespace Cert.Proof.Pool

open Cert.ReferenceIdeal Cert.ReferenceIdeal.Gen
open Idealize.ShloMosaic Idealize.ShloMosaic.Pointwise

variable (x : S50000x512.Idx → Ideal .f32) (g : S50000.Idx → BitVec 32)

/-- The reference's greatest value of each segment: rows of other segments masked. -/
def refMax : FVec Ideal S64x512 .f32 :=
  Host.reduce FloatOps.maximumf (select (broadcastInDim S64x50000x512 ![0, 1, 2] bcast_S64x50000x1_S64x50000x512_0_1_2 (broadcastInDim S64x50000x1 ![0, 1] bcast_S64x50000_S64x50000x1_0_1 (cmpi .eq (broadcastInDim S64x50000 ![0, 1] bcast_S1x50000_S64x50000_0_1 (broadcastInDim S1x50000 ![1] bcast_S50000_S1x50000_1 g)) (broadcastInDim S64x50000 ![0, 1] bcast_S64x1_S64x50000_0_1 (broadcastInDim S64x1 ![0] bcast_S64_S64x1_0 (iotaInDim S64 32 0)))))) (broadcastInDim S64x50000x512 ![0, 1, 2] bcast_S1x50000x512_S64x50000x512_0_1_2 (broadcastInDim S1x50000x512 ![1, 2] bcast_S50000x512_S1x50000x512_1_2 x)) (broadcastInDim S64x50000x512 ![] bcast_S_S64x50000x512 (id (constant S_ .f32 0xFF800000#32)))) (constant S_ .f32 0xFF800000#32) reducesTo_S64x50000x512_S64x512_d1 h_S_
def refSum : FVec Ideal S64x512 .f32 :=
  Host.scatterAdd scatter_S64x512_S50000x1_S50000x512_1_0_0_1 (broadcastInDim S64x512 ![] bcast_S_S64x512 (constant S_ .f32 0x00000000#32)) (broadcastInDim S50000x1 ![0] bcast_S50000_S50000x1_0 g) x
def refCnt : FVec Ideal S64 .f32 :=
  Host.scatterAdd scatter_S64_S50000x1_S50000_n_0_0_1 (broadcastInDim S64 ![] bcast_S_S64 (constant S_ .f32 0x00000000#32)) (broadcastInDim S50000x1 ![0] bcast_S50000_S50000x1_0 g) (broadcastInDim S50000 ![] bcast_S_S50000 (constant S_ .f32 0x3F800000#32))

/-! ## Rows by number -/

theorem rowOf_val (n : Fin 50000) (c : Fin 512) : rowOf x n.val c = x (ix2 n c) := by
  unfold rowOf
  refine congrArg x (funext fun a => ?_)
  fin_cases a
  · exact Fin.ext (Nat.mod_eq_of_lt n.isLt)
  · rfl

theorem segOf_val (n : Fin 50000) : segOf g n.val = g (ix1 n) := by
  unfold segOf
  refine congrArg g (funext fun a => ?_)
  fin_cases a
  exact Fin.ext (Nat.mod_eq_of_lt n.isLt)

theorem seg_iff (v : BitVec 32) (s : Fin 64) : (v == BitVec.ofNat 32 s.val) = decide (v.toNat = s.val) := by
  have hs := s.isLt
  rw [Bool.eq_iff_iff, beq_iff_eq, decide_eq_true_eq, ← BitVec.toNat_inj, BitVec.toNat_ofNat, Nat.mod_eq_of_lt (by omega)]

theorem fold_max_sup {ι : Type} (S : Finset ι) (f : ι → EReal) : S.fold max ⊥ f = S.sup f := rfl

theorem refMax_eq (s : Fin 64) (c : Fin 512) : refMax x g (ix2 s c) = segMax x g s c := by
  pointwise [refMax]
  rw [show Ideal.ofBits FTy.f32 4286578688#32 = ⊥ from bits_negInf, fold_max_sup]
  unfold segMax
  rw [← sup_fin]
  refine Finset.sup_congr rfl fun n _ => ?_
  unfold toMax
  rw [rowOf_val, segOf_val]
  show Scalar.select (BitVec.ofBool (g (ix1 n) == BitVec.ofNat 32 s.val)) _ (FloatOps.ofBits .f32 0xFF800000#32 : Ideal .f32) = _
  rw [seg_iff, bits_negInf]
  by_cases e : (g (ix1 n)).toNat = s.val
  · rw [if_pos e, decide_eq_true e]; rfl
  · rw [if_neg e, decide_eq_false e]; rfl

/-! ## The scattered sums -/

theorem ix2_ex {n k : ℕ} (j : (⟨2, ![n, k]⟩ : Shape).Idx) : ∃ (a : Fin n) (b : Fin k), j = ix2 a b :=
  ⟨j 0, j 1, by funext a; match a with
    | 0 => rfl
    | 1 => rfl⟩

theorem ix1_ex {n : ℕ} (j : (⟨1, ![n]⟩ : Shape).Idx) : ∃ a : Fin n, j = ix1 a :=
  ⟨j 0, by funext a; match a with
    | 0 => rfl⟩

abbrev ids1 : S50000x1.Idx → BitVec 32 := broadcastInDim S50000x1 ![0] bcast_S50000_S50000x1_0 g

theorem start0 (n : Fin 50000) (c : Fin 512) :
    scatter_S64x512_S50000x1_S50000x512_1_0_0_1.start (ix2 n c) (ids1 g) 0 = (g (ix1 n)).toInt := by
  unfold ScatterDims.start
  rw [dif_pos (by decide)]
  refine congrArg BitVec.toInt ?_
  unfold ids1
  pointwise
  refine congrArg g (funext fun a => ?_)
  fin_cases a
  refine Fin.ext ?_
  rfl
theorem start1 (n : Fin 50000) (c : Fin 512) :
    scatter_S64x512_S50000x1_S50000x512_1_0_0_1.start (ix2 n c) (ids1 g) 1 = 0 := rfl
theorem window0 (n : Fin 50000) (c : Fin 512) :
    scatter_S64x512_S50000x1_S50000x512_1_0_0_1.window (ix2 n c) 0 = 0 := rfl
theorem window1 (n : Fin 50000) (c : Fin 512) :
    scatter_S64x512_S50000x1_S50000x512_1_0_0_1.window (ix2 n c) 1 = c.val := rfl
theorem start0' (n : Fin 50000) :
    scatter_S64_S50000x1_S50000_n_0_0_1.start (ix1 n) (ids1 g) 0 = (g (ix1 n)).toInt := by
  unfold ScatterDims.start
  rw [dif_pos (by decide)]
  refine congrArg BitVec.toInt ?_
  unfold ids1
  pointwise
  refine congrArg g (funext fun a => ?_)
  fin_cases a
  refine Fin.ext ?_
  rfl
theorem window0' (n : Fin 50000) :
    scatter_S64_S50000x1_S50000_n_0_0_1.window (ix1 n) 0 = 0 := rfl

variable {g} (hr : ∀ j, (g j).toNat < 64)
include hr

theorem toInt_eq (n : Fin 50000) : (g (ix1 n)).toInt = ((g (ix1 n)).toNat : ℤ) := by
  have := hr (ix1 n)
  rw [BitVec.toInt_eq_toNat_cond, if_pos (by omega)]

theorem lands (n : Fin 50000) (c c' : Fin 512) (s : Fin 64) :
    scatter_S64x512_S50000x1_S50000x512_1_0_0_1.resultIdx? (ix2 n c') (ids1 g) = some (ix2 s c) ↔ (g (ix1 n)).toNat = s.val ∧ c' = c := by
  have hn := hr (ix1 n)
  have h : ∀ a, 0 ≤ scatter_S64x512_S50000x1_S50000x512_1_0_0_1.start (ix2 n c') (ids1 g) a + scatter_S64x512_S50000x1_S50000x512_1_0_0_1.window (ix2 n c') a
      ∧ scatter_S64x512_S50000x1_S50000x512_1_0_0_1.start (ix2 n c') (ids1 g) a + scatter_S64x512_S50000x1_S50000x512_1_0_0_1.window (ix2 n c') a < S64x512.size a := by
    intro a
    match a with
    | 0 =>
      rw [start0, window0, toInt_eq hr]
      refine ⟨by omega, ?_⟩
      show _ < ((64 : ℕ) : ℤ)
      omega
    | 1 =>
      rw [start1, window1]
      have := c'.isLt
      refine ⟨by omega, ?_⟩
      show _ < ((512 : ℕ) : ℤ)
      omega
  unfold ScatterDims.resultIdx?
  rw [dif_pos h, Option.some_inj]
  constructor
  · intro e
    have e0 := congrArg Fin.val (congrFun e 0)
    have e1 := congrArg Fin.val (congrFun e 1)
    simp only [start0, window0, start1, window1, toInt_eq hr] at e0 e1
    refine ⟨?_, Fin.ext ?_⟩
    · have : ((g (ix1 n)).toNat : ℤ).toNat = s.val := by simpa using e0
      simpa using this
    · have : ((0 : ℤ) + (c'.val : ℤ)).toNat = c.val := by simpa using e1
      simpa using this
  · rintro ⟨e, rfl⟩
    funext a
    match a with
    | 0 =>
      refine Fin.ext ?_
      simp only [start0, window0, toInt_eq hr, e]
      show ((s.val : ℤ) + ((0 : ℕ) : ℤ)).toNat = s.val
      simp
    | 1 =>
      refine Fin.ext ?_
      simp only [start1, window1]
      show ((0 : ℤ) + (c'.val : ℤ)).toNat = c'.val
      simp

theorem lands' (n : Fin 50000) (s : Fin 64) :
    scatter_S64_S50000x1_S50000_n_0_0_1.resultIdx? (ix1 n) (ids1 g) = some (ix1 s) ↔ (g (ix1 n)).toNat = s.val := by
  have hn := hr (ix1 n)
  have h : ∀ a, 0 ≤ scatter_S64_S50000x1_S50000_n_0_0_1.start (ix1 n) (ids1 g) a + scatter_S64_S50000x1_S50000_n_0_0_1.window (ix1 n) a
      ∧ scatter_S64_S50000x1_S50000_n_0_0_1.start (ix1 n) (ids1 g) a + scatter_S64_S50000x1_S50000_n_0_0_1.window (ix1 n) a < S64.size a := by
    intro a
    match a with
    | 0 =>
      rw [start0', window0', toInt_eq hr]
      refine ⟨by omega, ?_⟩
      show _ < ((64 : ℕ) : ℤ)
      omega
  unfold ScatterDims.resultIdx?
  rw [dif_pos h, Option.some_inj]
  constructor
  · intro e
    have e0 := congrArg Fin.val (congrFun e 0)
    simp only [start0', window0', toInt_eq hr] at e0
    have : ((g (ix1 n)).toNat : ℤ).toNat = s.val := by simpa using e0
    simpa using this
  · intro e
    funext a
    match a with
    | 0 =>
      refine Fin.ext ?_
      simp only [start0', window0', toInt_eq hr, e]
      show ((s.val : ℤ) + ((0 : ℕ) : ℤ)).toNat = s.val
      simp

theorem refSum_eq (s : Fin 64) (c : Fin 512) : refSum x g (ix2 s c) = segSum x g s c := by
  show (FloatOps.ofBits .f32 0x00000000#32 : Ideal .f32) + ∑ j ∈ Finset.univ.filter (fun j => scatter_S64x512_S50000x1_S50000x512_1_0_0_1.resultIdx? j (ids1 g) = some (ix2 s c)), x j = _
  rw [bits_zero, zero_add]
  have e : Finset.univ.filter (fun j => scatter_S64x512_S50000x1_S50000x512_1_0_0_1.resultIdx? j (ids1 g) = some (ix2 s c))
      = (Finset.univ.filter fun n : Fin 50000 => (g (ix1 n)).toNat = s.val).image fun n => (ix2 n c : S50000x512.Idx) := by
    ext j
    simp only [Finset.mem_filter, Finset.mem_univ, true_and, Finset.mem_image]
    constructor
    · intro h
      obtain ⟨n, c', rfl⟩ := ix2_ex j
      rw [lands hr] at h
      exact ⟨n, h.1, by rw [h.2]⟩
    · rintro ⟨n, h, rfl⟩
      exact (lands hr n c c s).2 ⟨h, rfl⟩
  rw [e, Finset.sum_image (fun a _ b _ h => congrFun h 0), Finset.sum_filter]
  refine Eq.trans (Finset.sum_congr rfl fun n _ => ?_) (Fin.sum_univ_eq_sum_range (toSum (rowOf x) (segOf g) s c) 50000)
  unfold toSum
  rw [rowOf_val, segOf_val]

theorem refCnt_eq (s : Fin 64) : refCnt g (ix1 s) = segCnt g s := by
  show (FloatOps.ofBits .f32 0x00000000#32 : Ideal .f32) + ∑ j ∈ Finset.univ.filter (fun j => scatter_S64_S50000x1_S50000_n_0_0_1.resultIdx? j (ids1 g) = some (ix1 s)), (one : Ideal .f32) = _
  rw [bits_zero, zero_add]
  have e : Finset.univ.filter (fun j => scatter_S64_S50000x1_S50000_n_0_0_1.resultIdx? j (ids1 g) = some (ix1 s))
      = (Finset.univ.filter fun n : Fin 50000 => (g (ix1 n)).toNat = s.val).image fun n => (ix1 n : S50000.Idx) := by
    ext j
    simp only [Finset.mem_filter, Finset.mem_univ, true_and, Finset.mem_image]
    constructor
    · intro h
      obtain ⟨n, rfl⟩ := ix1_ex j
      rw [lands' hr] at h
      exact ⟨n, h, rfl⟩
    · rintro ⟨n, h, rfl⟩
      exact (lands' hr n s).2 h
  rw [e, Finset.sum_image (fun a _ b _ h => congrFun h 0), Finset.sum_filter, bits_one]
  refine Eq.trans (Finset.sum_congr rfl fun n _ => ?_) (Fin.sum_univ_eq_sum_range (toCnt (segOf g) s) 50000)
  unfold toCnt
  rw [segOf_val]

end Cert.Proof.Pool

end
-- ==== Proof.FirstKernel.lean ====
module

public import proofs.«01_k».proof.Proof.PoolRef
public import proofs.«01_k».proof.Proof.Head

/-!
# The kernel's first layer, over the extended reals
-/

@[expose] public section

noncomputable section

namespace Cert.Proof.Pool

open Cert.KernelIdeal Cert.KernelIdeal.Gen
open Idealize.ShloMosaic Idealize.ShloMosaic.Pointwise

/-- The first layer of what was pooled: `M` the greatest values, `T` the sums, `N` the counts. -/
def firstOf (M T : Fin 64 → Fin 512 → EReal) (N : Fin 64 → EReal) (w1 : (⟨2, ![1024, 512]⟩ : Shape).Idx → EReal) (b1 : (⟨1, ![512]⟩ : Shape).Idx → EReal)
    (s : Fin 64) (c : Fin 512) : EReal :=
  ∑ k : Fin 512, M s k * w1 (ix2 (⟨k.val, by have := k.isLt; omega⟩ : Fin 1024) c)
    + ∑ k : Fin 512, Ideal.div (T s k) (max (N s) 1) * w1 (ix2 (⟨512 + k.val, by have := k.isLt; omega⟩ : Fin 1024) c) + b1 (ix1 c)

theorem first_of_parts (pm ps : Vec Ideal S32x64x512 .f32) (pc : Vec Ideal S32x64x16 .f32) (w1 : Vec Ideal S1024x512 .f32) (b1 : Vec Ideal S512 .f32)
    (s : Fin 64) (c : Fin 512) :
    k1_pay2 (F := Ideal) pm ps pc w1 b1 (ix2 s c)
      = firstOf (fun s k => Finset.univ.fold max (Ideal.ofBits .f32 0xFF800000#32) fun w : Fin 32 => pm (ix3 w s k)) (fun s k => ∑ w : Fin 32, ps (ix3 w s k))
          (fun s => ∑ w : Fin 32, pc (ix3 w s 0)) w1 b1 s c := by
  pointwise [k1_pay2]
  rfl

theorem first_kernel (x : S50000x512.Idx → Ideal .f32) {g : S50000.Idx → BitVec 32} (hg : Sorted (segOf g) 50000)
    (w1 : Vec Ideal S1024x512 .f32) (b1 : Vec Ideal S512 .f32) (s : Fin 64) (c : Fin 512) :
    k1_pay2 (F := Ideal) (partMax x g) (partSum x g) (partCnt x g) w1 b1 (ix2 s c) = firstOf (segMax x g) (segSum x g) (segCnt g) w1 b1 s c := by
  rw [first_of_parts]
  have e0 : ∀ (w : Fin 32) (s : Fin 64) (k : Fin 512), (ix3 w s k : S32x64x512.Idx) = atP w s k := fun w s k => by
    funext a; fin_cases a <;> rfl
  have e1 : ∀ (w : Fin 32) (s : Fin 64) (k : Fin 16), (ix3 w s k : S32x64x16.Idx) = atN w s k := fun w s k => by
    funext a; fin_cases a <;> rfl
  have hM : (fun (s : Fin 64) (k : Fin 512) => Finset.univ.fold max (Ideal.ofBits .f32 0xFF800000#32) fun w : Fin 32 => partMax x g (ix3 w s k)) = segMax x g := by
    funext s k
    rw [show Ideal.ofBits FTy.f32 0xFF800000#32 = ⊥ from bits_negInf, fold_max_sup]
    simp only [e0]; exact all_max x hg s k
  have hS : (fun (s : Fin 64) (k : Fin 512) => ∑ w : Fin 32, partSum x g (ix3 w s k)) = segSum x g := by
    funext s k
    simp only [e0]; exact all_sum x hg s k
  have hC : (fun (s : Fin 64) => ∑ w : Fin 32, partCnt x g (ix3 w s 0)) = segCnt g := by
    funext s
    simp only [e1]; exact all_cnt x hg s 0
  rw [hM, hS, hC]

end Cert.Proof.Pool

end
-- ==== Proof.FirstRef.lean ====
module

public import proofs.«01_k».proof.Proof.FirstKernel

/-!
# The reference's first layer, over the extended reals
-/

@[expose] public section

noncomputable section

namespace Cert.Proof.Pool

open Cert.ReferenceIdeal Cert.ReferenceIdeal.Gen
open Idealize.ShloMosaic Idealize.ShloMosaic.Pointwise

/-- The reference's first layer, from what it pooled. -/
def refFirst (M T : FVec Ideal S64x512 .f32) (N : FVec Ideal S64 .f32) (w1 : FVec Ideal S1024x512 .f32) (b1 : FVec Ideal S512 .f32) : FVec Ideal S64x512 .f32 :=
  addf (Host.dotGeneral dot_S64x1024_S1024x512_S64x512_1_0_0_1_n_n none (concatenate S64x1024 1 [⟨S64x512, M⟩, ⟨S64x512, (Host.divf T (broadcastInDim S64x512 ![0, 1] bcast_S64x1_S64x512_0_1 (broadcastInDim S64x1 ![0] bcast_S64_S64x1_0 (maximumf N (broadcastInDim S64 ![] bcast_S_S64 (constant S_ .f32 0x3F800000#32))))))⟩] concatenates_S64x512_S64x512_S64x1024_d1) w1) (broadcastInDim S64x512 ![0, 1] bcast_S1x512_S64x512_0_1 (broadcastInDim S1x512 ![1] bcast_S512_S1x512_1 b1))

theorem refFirst_apply (M T : FVec Ideal S64x512 .f32) (N : FVec Ideal S64 .f32) (w1 : FVec Ideal S1024x512 .f32) (b1 : FVec Ideal S512 .f32)
    (s : Fin 64) (c : Fin 512) :
    refFirst M T N w1 b1 (ix2 s c) = firstOf (fun s k => M (ix2 s k)) (fun s k => T (ix2 s k)) (fun s => N (ix1 s)) w1 b1 s c := by
  pointwise [refFirst]
  rfl

theorem first_ref (V0 : Valuation τ sig (Elt Ideal)) (hr : ∀ j, (V0 (Proc.devRef .tc main_arg1) j : BitVec 32).toNat < 64) (s : Fin 64) (c : Fin 512) :
    Value.res_main_v26 V0 (ix2 s c)
      = firstOf (segMax (V0 (Proc.devRef .tc main_arg0)) (V0 (Proc.devRef .tc main_arg1))) (segSum (V0 (Proc.devRef .tc main_arg0)) (V0 (Proc.devRef .tc main_arg1)))
          (segCnt (V0 (Proc.devRef .tc main_arg1))) (V0 (Proc.devRef .tc main_arg2)) (V0 (Proc.devRef .tc main_arg3)) s c := by
  have e : Value.res_main_v26 V0 = refFirst (refMax (V0 (Proc.devRef .tc main_arg0)) (V0 (Proc.devRef .tc main_arg1)))
      (refSum (V0 (Proc.devRef .tc main_arg0)) (V0 (Proc.devRef .tc main_arg1))) (refCnt (V0 (Proc.devRef .tc main_arg1)))
      (V0 (Proc.devRef .tc main_arg2)) (V0 (Proc.devRef .tc main_arg3)) := rfl
  refine (congrFun e (ix2 s c)).trans ((refFirst_apply _ _ _ _ _ s c).trans ?_)
  have hM : (fun (s : Fin 64) (k : Fin 512) => refMax (V0 (Proc.devRef .tc main_arg0)) (V0 (Proc.devRef .tc main_arg1)) (ix2 s k))
      = segMax (V0 (Proc.devRef .tc main_arg0)) (V0 (Proc.devRef .tc main_arg1)) := by
    funext s k; exact refMax_eq _ _ s k
  have hS : (fun (s : Fin 64) (k : Fin 512) => refSum (V0 (Proc.devRef .tc main_arg0)) (V0 (Proc.devRef .tc main_arg1)) (ix2 s k))
      = segSum (V0 (Proc.devRef .tc main_arg0)) (V0 (Proc.devRef .tc main_arg1)) := by
    funext s k; exact refSum_eq _ hr s k
  have hC : (fun (s : Fin 64) => refCnt (V0 (Proc.devRef .tc main_arg1)) (ix1 s)) = segCnt (V0 (Proc.devRef .tc main_arg1)) := by
    funext s; exact refCnt_eq hr s
  rw [hM, hS, hC]

end Cert.Proof.Pool

end
-- ==== Proof.Match.lean ====
module

public import proofs.«01_k».proof.Proof.FirstRef

/-!
# The two heads, over the extended reals

Both normalise each column of a layer by its mean and variance over the 64 segments, scale, shift and rectify it. The kernel
multiplies by one over the square root and asks whether a value is greater than zero; the reference divides by the square root
and asks whether it is not less. A variance is not negative, so what is under the root is positive and the two quotients agree;
at zero the two branches agree.
-/

@[expose] public section

noncomputable section

namespace Cert.Proof.Pool

open Idealize.ShloMosaic Idealize.ShloMosaic.Pointwise

/-! ## The plain maths -/

def sixtyFour : EReal := Ideal.ofBits .f32 0x42800000#32
def eps : EReal := Ideal.ofBits .f32 0x3727C5AC#32
def slope : EReal := Ideal.ofBits .f32 0x3C23D70A#32

variable {n : ℕ}

def mean (h : Fin 64 → Fin n → EReal) (c : Fin n) : EReal := Ideal.div (∑ s, h s c) sixtyFour
def var (h : Fin 64 → Fin n → EReal) (c : Fin n) : EReal := Ideal.div (∑ s, (h s c - mean h c) * (h s c - mean h c)) sixtyFour
/-- The normalised column by a product with the reciprocal root, and by a quotient. -/
def normMul (h : Fin 64 → Fin n → EReal) (g be : (⟨1, ![n]⟩ : Shape).Idx → EReal) (s : Fin 64) (c : Fin n) : EReal :=
  (h s c - mean h c) * Ideal.rsqrt (var h c + eps) * g (ix1 c) + be (ix1 c)
def normDiv (h : Fin 64 → Fin n → EReal) (g be : (⟨1, ![n]⟩ : Shape).Idx → EReal) (s : Fin 64) (c : Fin n) : EReal :=
  Ideal.div (h s c - mean h c) (Ideal.sqrt (var h c + eps)) * g (ix1 c) + be (ix1 c)
def leakyGt (z : EReal) : EReal := if 0 < z then z else slope * z
def leakyGe (z : EReal) : EReal := if 0 ≤ z then z else slope * z
def dense {k : ℕ} (z : Fin 64 → Fin n → EReal) (w : (⟨2, ![n, k]⟩ : Shape).Idx → EReal) (b : (⟨1, ![k]⟩ : Shape).Idx → EReal) (s : Fin 64) (c : Fin k) : EReal :=
  ∑ x, z s x * w (ix2 x c) + b (ix1 c)

theorem sixtyFour_eq : sixtyFour = ((64 : ℝ) : EReal) := by
  simp [sixtyFour, Ideal.ofBits, Ideal.ieee, -EReal.coe_mul]; norm_num

theorem eps_pos : 0 < eps := by
  simp [eps, Ideal.ofBits, Ideal.ieee, -EReal.coe_mul]

theorem square_nonneg (z : EReal) : 0 ≤ z * z := by
  induction z with
  | bot => simp
  | coe r => rw [← EReal.coe_mul]; exact_mod_cast mul_self_nonneg r
  | top => simp

theorem var_nonneg (h : Fin 64 → Fin n → EReal) (c : Fin n) : 0 ≤ var h c := by
  unfold var
  rw [sixtyFour_eq, Ideal.div_coe (by norm_num)]
  exact mul_nonneg (Finset.sum_nonneg fun _ _ => square_nonneg _) (by exact_mod_cast (by norm_num : (0 : ℝ) ≤ 1 / 64))

/-- Off zero and above it, a product with the reciprocal root is the quotient by the root. -/
theorem mul_rsqrt (z r : EReal) (hr : 0 < r) : z * Ideal.rsqrt r = Ideal.div z (Ideal.sqrt r) := by
  induction r with
  | bot => simp at hr
  | top =>
    show z * 0 = Ideal.div z ⊤
    simp [Ideal.div]
  | coe r =>
    have h0 : 0 < r := by exact_mod_cast hr
    have hs : (Real.sqrt r : ℝ) ≠ 0 := (Real.sqrt_pos.2 h0).ne'
    have e1 : Ideal.rsqrt (r : EReal) = (((Real.sqrt r)⁻¹ : ℝ) : EReal) := by
      show (if r < 0 then ⊥ else if r = 0 then ⊤ else (((Real.sqrt r)⁻¹ : ℝ) : EReal)) = _
      rw [if_neg (not_lt.2 h0.le), if_neg h0.ne']
    have e2 : Ideal.sqrt (r : EReal) = ((Real.sqrt r : ℝ) : EReal) := by
      show (if r < 0 then ⊥ else ((Real.sqrt r : ℝ) : EReal)) = _
      rw [if_neg (not_lt.2 h0.le)]
    rw [e1, e2, Ideal.div_coe hs, one_div]

theorem norm_eq (h : Fin 64 → Fin n → EReal) (g be : (⟨1, ![n]⟩ : Shape).Idx → EReal) : normMul h g be = normDiv h g be := by
  funext s c
  unfold normMul normDiv
  rw [mul_rsqrt _ _ (lt_of_lt_of_le eps_pos (le_add_of_nonneg_left (var_nonneg h c)))]

theorem leaky_eq (z : EReal) : leakyGt z = leakyGe z := by
  unfold leakyGt leakyGe
  rcases lt_trichotomy 0 z with h | h | h
  · rw [if_pos h, if_pos h.le]
  · subst h; simp
  · rw [if_neg (not_lt.2 h.le), if_neg (not_le.2 h)]

/-- The head from its first layer, as the kernel and as the reference compute it. -/
def headMul (h : Fin 64 → Fin 512 → EReal) (g1 be1 : (⟨1, ![512]⟩ : Shape).Idx → EReal) (w2 : (⟨2, ![512, 256]⟩ : Shape).Idx → EReal)
    (b2 g2 be2 : (⟨1, ![256]⟩ : Shape).Idx → EReal) (w3 : (⟨2, ![256, 8]⟩ : Shape).Idx → EReal) (b3 : (⟨1, ![8]⟩ : Shape).Idx → EReal) : Fin 64 → Fin 8 → EReal :=
  dense (fun s c => leakyGt (normMul (dense (fun s c => leakyGt (normMul h g1 be1 s c)) w2 b2) g2 be2 s c)) w3 b3
def headDiv (h : Fin 64 → Fin 512 → EReal) (g1 be1 : (⟨1, ![512]⟩ : Shape).Idx → EReal) (w2 : (⟨2, ![512, 256]⟩ : Shape).Idx → EReal)
    (b2 g2 be2 : (⟨1, ![256]⟩ : Shape).Idx → EReal) (w3 : (⟨2, ![256, 8]⟩ : Shape).Idx → EReal) (b3 : (⟨1, ![8]⟩ : Shape).Idx → EReal) : Fin 64 → Fin 8 → EReal :=
  dense (fun s c => leakyGe (normDiv (dense (fun s c => leakyGe (normDiv h g1 be1 s c)) w2 b2) g2 be2 s c)) w3 b3

theorem head_eq : headMul = headDiv := by
  unfold headMul headDiv
  simp only [norm_eq, leaky_eq]

/-! ## The kernel's head -/

section kernel
open Cert.KernelIdeal Cert.KernelIdeal.Gen

variable (pm ps : Vec Ideal S32x64x512 .f32) (pc : Vec Ideal S32x64x16 .f32) (w1 : Vec Ideal S1024x512 .f32) (b1 : Vec Ideal S512 .f32)

/-- The kernel's first layer by its coordinates. -/
def kFirst (s : Fin 64) (c : Fin 512) : EReal := k1_pay2 (F := Ideal) pm ps pc w1 b1 (ix2 s c)

theorem pay4_apply (c : Fin 512) : k1_pay4 (F := Ideal) pm ps pc w1 b1 (ix1 c) = var (kFirst pm ps pc w1 b1) c := by
  pointwise [k1_pay4, k1_pay3]
  rfl

theorem pay5_apply (s : Fin 64) (c : Fin 512) :
    k1_pay5 (F := Ideal) pm ps pc w1 b1 (ix2 s c) = kFirst pm ps pc w1 b1 s c - mean (kFirst pm ps pc w1 b1) c := by
  pointwise [k1_pay5, k1_pay3]
  rfl

/-- The second layer from the first's variance and centred value. -/
def kSecond (g1 be1 : Vec Ideal S512 .f32) (v : FVec Ideal S512 .f32) (d : FVec Ideal S64x512 .f32) (e : Ideal .f32) (w2 : Vec Ideal S512x256 .f32) (b2 : Vec Ideal S256 .f32) :
    Fin 64 → Fin 256 → EReal :=
  dense (fun s x => leakyGt (d (ix2 s x) * Ideal.rsqrt (v (ix1 x) + e) * g1 (ix1 x) + be1 (ix1 x))) w2 b2

theorem pay6_apply (g1 be1 : Vec Ideal S512 .f32) (v : FVec Ideal S512 .f32) (d : FVec Ideal S64x512 .f32) (e : Ideal .f32) (w2 : Vec Ideal S512x256 .f32) (b2 g2 : Vec Ideal S256 .f32)
    (s : Fin 64) (c : Fin 256) :
    k1_pay6 (F := Ideal) g1 be1 v d e w2 b2 g2 (ix2 s c)
      = (kSecond g1 be1 v d e w2 b2 s c - mean (kSecond g1 be1 v d e w2 b2) c) * Ideal.rsqrt (var (kSecond g1 be1 v d e w2 b2) c + eps) * g2 (ix1 c) := by
  pointwise [k1_pay6]
  rfl

theorem pay1_apply (be2 : Vec Ideal S256 .f32) (z : FVec Ideal S64x256 .f32) (w3 : Vec Ideal S256x8 .f32) (b3 : Vec Ideal S8 .f32) (s : Fin 64) (c : Fin 8) :
    k1_pay1 (F := Ideal) be2 z w3 b3 (ix2 s c) = dense (fun s x => leakyGt (z (ix2 s x) + be2 (ix1 x))) w3 b3 s c := by
  pointwise [k1_pay1]
  rfl

theorem head_kernel (g1 be1 : Vec Ideal S512 .f32) (w2 : Vec Ideal S512x256 .f32) (b2 g2 be2 : Vec Ideal S256 .f32) (w3 : Vec Ideal S256x8 .f32) (b3 : Vec Ideal S8 .f32) (s : Fin 64) (c : Fin 8) :
    headVal (F := Ideal) pm ps pc w1 b1 g1 be1 w2 b2 g2 be2 w3 b3 (ix2 s c) = headMul (kFirst pm ps pc w1 b1) g1 be1 w2 b2 g2 be2 w3 b3 s c := by
  have e : kSecond g1 be1 (k1_pay4 (F := Ideal) pm ps pc w1 b1) (k1_pay5 (F := Ideal) pm ps pc w1 b1) eps w2 b2
      = dense (fun s c => leakyGt (normMul (kFirst pm ps pc w1 b1) g1 be1 s c)) w2 b2 := by
    unfold kSecond normMul
    simp only [pay4_apply, pay5_apply]
  refine (pay1_apply _ _ _ _ s c).trans ?_
  unfold headMul
  refine congrFun (congrFun (congrArg (fun z => dense z w3 b3) (funext fun s => funext fun x => congrArg leakyGt ?_)) s) c
  refine congrArg (· + be2 (ix1 x)) ((pay6_apply _ _ _ _ _ _ _ _ s x).trans ?_)
  rw [show (Scalar.ofBits .f32 0x3727C5AC#32 : Ideal .f32) = eps from rfl, e]

end kernel

end Cert.Proof.Pool

end
-- ==== Proof.MatchRef.lean ====
module

public import proofs.«01_k».proof.Proof.Match

/-!
# The reference's head, over the extended reals
-/

@[expose] public section

noncomputable section

namespace Cert.Proof.Pool

open Cert.ReferenceIdeal Cert.ReferenceIdeal.Gen
open Idealize.ShloMosaic Idealize.ShloMosaic.Pointwise

theorem sitofp_zero_word (j : S_.Idx) : (sitofp .f32 (constantI S_ 32 0#32) : FVec Ideal S_ .f32) j = 0 := by
  show ((((0#32 : BitVec 32).toInt : ℤ) : ℝ) : EReal) = 0
  simp

theorem sixtyFour_pos : (0 : EReal) < sixtyFour := by rw [sixtyFour_eq]; exact_mod_cast (by norm_num : (0 : ℝ) < 64)

/-! ## The pieces, from arrays -/

/-- An array less its columns' means. -/
def refCentre512 (h : FVec Ideal S64x512 .f32) : FVec Ideal S64x512 .f32 :=
  subf h (broadcastInDim S64x512 ![0, 1] bcast_S1x512_S64x512_0_1 (Host.divf (broadcastInDim S1x512 ![1] bcast_S512_S1x512_1 (Host.reduceAdd h (constant S_ .f32 0x00000000#32) reducesTo_S64x512_S512_d0 h_S_)) (broadcastInDim S1x512 ![] bcast_S_S1x512 (constant S_ .f32 0x42800000#32))))

theorem refCentre512_apply (h : FVec Ideal S64x512 .f32) (s : Fin 64) (c : Fin 512) :
    refCentre512 h (ix2 s c) = h (ix2 s c) - mean (fun s c => h (ix2 s c)) c := by
  pointwise [refCentre512]
  rfl

/-- The normalised array, from the array, its centred values and the number of rows. -/
def refNorm512 (h d : FVec Ideal S64x512 .f32) (q : FVec Ideal S_ .f32) (g be : FVec Ideal S512 .f32) : FVec Ideal S64x512 .f32 :=
  addf (mulf (Host.divf (subf h (broadcastInDim S64x512 ![0, 1] bcast_S1x512_S64x512_0_1 (broadcastInDim S1x512 ![1] bcast_S512_S1x512_1 (Host.divf (Host.reduceAdd h (constant S_ .f32 0x00000000#32) reducesTo_S64x512_S512_d0 h_S_) (broadcastInDim S512 ![] bcast_S_S512 (constant S_ .f32 0x42800000#32)))))) (broadcastInDim S64x512 ![0, 1] bcast_S1x512_S64x512_0_1 (broadcastInDim S1x512 ![1] bcast_S512_S1x512_1 (Host.sqrt (addf (select (broadcastInDim S512 ![] bcast_S_S512 (cmpf .ogt q (constant S_ .f32 0x00000000#32))) (Host.divf (Host.reduceAdd (mulf d d) (constant S_ .f32 0x00000000#32) reducesTo_S64x512_S512_d0 h_S_) (broadcastInDim S512 ![] bcast_S_S512 q)) (broadcastInDim S512 ![] bcast_S_S512 (id (constant S_ .f32 0x7FC00000#32)))) (broadcastInDim S512 ![] bcast_S_S512 (constant S_ .f32 0x3727C5AC#32))))))) (broadcastInDim S64x512 ![0, 1] bcast_S1x512_S64x512_0_1 (broadcastInDim S1x512 ![1] bcast_S512_S1x512_1 g))) (broadcastInDim S64x512 ![0, 1] bcast_S1x512_S64x512_0_1 (broadcastInDim S1x512 ![1] bcast_S512_S1x512_1 be))

theorem refNorm512_apply (h d : FVec Ideal S64x512 .f32) (q : FVec Ideal S_ .f32) (g be : FVec Ideal S512 .f32) (s : Fin 64) (c : Fin 512)
    (hq : q ix0 = sixtyFour) (hd : ∀ s c, d (ix2 s c) = h (ix2 s c) - mean (fun s c => h (ix2 s c)) c) :
    refNorm512 h d q g be (ix2 s c) = normDiv (fun s c => h (ix2 s c)) g be s c := by
  pointwise [refNorm512]
  rw [hq, if_pos sixtyFour_pos]
  simp only [hd]
  rfl

/-- An array less its columns' means. -/
def refCentre256 (h : FVec Ideal S64x256 .f32) : FVec Ideal S64x256 .f32 :=
  subf h (broadcastInDim S64x256 ![0, 1] bcast_S1x256_S64x256_0_1 (Host.divf (broadcastInDim S1x256 ![1] bcast_S256_S1x256_1 (Host.reduceAdd h (constant S_ .f32 0x00000000#32) reducesTo_S64x256_S256_d0 h_S_)) (broadcastInDim S1x256 ![] bcast_S_S1x256 (constant S_ .f32 0x42800000#32))))

theorem refCentre256_apply (h : FVec Ideal S64x256 .f32) (s : Fin 64) (c : Fin 256) :
    refCentre256 h (ix2 s c) = h (ix2 s c) - mean (fun s c => h (ix2 s c)) c := by
  pointwise [refCentre256]
  rfl

/-- The normalised array, from the array, its centred values and the number of rows. -/
def refNorm256 (h d : FVec Ideal S64x256 .f32) (q : FVec Ideal S_ .f32) (g be : FVec Ideal S256 .f32) : FVec Ideal S64x256 .f32 :=
  addf (mulf (Host.divf (subf h (broadcastInDim S64x256 ![0, 1] bcast_S1x256_S64x256_0_1 (broadcastInDim S1x256 ![1] bcast_S256_S1x256_1 (Host.divf (Host.reduceAdd h (constant S_ .f32 0x00000000#32) reducesTo_S64x256_S256_d0 h_S_) (broadcastInDim S256 ![] bcast_S_S256 (constant S_ .f32 0x42800000#32)))))) (broadcastInDim S64x256 ![0, 1] bcast_S1x256_S64x256_0_1 (broadcastInDim S1x256 ![1] bcast_S256_S1x256_1 (Host.sqrt (addf (select (broadcastInDim S256 ![] bcast_S_S256 (cmpf .ogt q (constant S_ .f32 0x00000000#32))) (Host.divf (Host.reduceAdd (mulf d d) (constant S_ .f32 0x00000000#32) reducesTo_S64x256_S256_d0 h_S_) (broadcastInDim S256 ![] bcast_S_S256 q)) (broadcastInDim S256 ![] bcast_S_S256 (id (constant S_ .f32 0x7FC00000#32)))) (broadcastInDim S256 ![] bcast_S_S256 (constant S_ .f32 0x3727C5AC#32))))))) (broadcastInDim S64x256 ![0, 1] bcast_S1x256_S64x256_0_1 (broadcastInDim S1x256 ![1] bcast_S256_S1x256_1 g))) (broadcastInDim S64x256 ![0, 1] bcast_S1x256_S64x256_0_1 (broadcastInDim S1x256 ![1] bcast_S256_S1x256_1 be))

theorem refNorm256_apply (h d : FVec Ideal S64x256 .f32) (q : FVec Ideal S_ .f32) (g be : FVec Ideal S256 .f32) (s : Fin 64) (c : Fin 256)
    (hq : q ix0 = sixtyFour) (hd : ∀ s c, d (ix2 s c) = h (ix2 s c) - mean (fun s c => h (ix2 s c)) c) :
    refNorm256 h d q g be (ix2 s c) = normDiv (fun s c => h (ix2 s c)) g be s c := by
  pointwise [refNorm256]
  rw [hq, if_pos sixtyFour_pos]
  simp only [hd]
  rfl

/-- A layer: the array rectified, times its weights, with its shift. -/
def refDense256 (z : FVec Ideal S64x512 .f32) (w : FVec Ideal S512x256 .f32) (b : FVec Ideal S256 .f32) : FVec Ideal S64x256 .f32 :=
  addf (Host.dotGeneral dot_S64x512_S512x256_S64x256_1_0_0_1_n_n none (select (cmpf .oge z (broadcastInDim S64x512 ![] bcast_S_S64x512 (constant S_ .f32 0x00000000#32))) z (mulf (broadcastInDim S64x512 ![] bcast_S_S64x512 (id (constant S_ .f32 0x3C23D70A#32))) z)) w) (broadcastInDim S64x256 ![0, 1] bcast_S1x256_S64x256_0_1 (broadcastInDim S1x256 ![1] bcast_S256_S1x256_1 b))

theorem refDense256_apply (z : FVec Ideal S64x512 .f32) (w : FVec Ideal S512x256 .f32) (b : FVec Ideal S256 .f32) (s : Fin 64) (c : Fin 256) :
    refDense256 z w b (ix2 s c) = dense (fun s x => leakyGe (z (ix2 s x))) w b s c := by
  pointwise [refDense256]
  rfl

/-- A layer: the array rectified, times its weights, with its shift. -/
def refDense8 (z : FVec Ideal S64x256 .f32) (w : FVec Ideal S256x8 .f32) (b : FVec Ideal S8 .f32) : FVec Ideal S64x8 .f32 :=
  addf (Host.dotGeneral dot_S64x256_S256x8_S64x8_1_0_0_1_n_n none (select (cmpf .oge z (broadcastInDim S64x256 ![] bcast_S_S64x256 (constant S_ .f32 0x00000000#32))) z (mulf (broadcastInDim S64x256 ![] bcast_S_S64x256 (id (constant S_ .f32 0x3C23D70A#32))) z)) w) (broadcastInDim S64x8 ![0, 1] bcast_S1x8_S64x8_0_1 (broadcastInDim S1x8 ![1] bcast_S8_S1x8_1 b))

theorem refDense8_apply (z : FVec Ideal S64x256 .f32) (w : FVec Ideal S256x8 .f32) (b : FVec Ideal S8 .f32) (s : Fin 64) (c : Fin 8) :
    refDense8 z w b (ix2 s c) = dense (fun s x => leakyGe (z (ix2 s x))) w b s c := by
  pointwise [refDense8]
  rfl

/-! ## The reference's terms -/

variable (V0 : Valuation τ sig (Elt Ideal))

theorem rows_value (j : S_.Idx) : (subf (constant S_ .f32 0x42800000#32) (sitofp .f32 (constantI S_ 32 0#32)) : FVec Ideal S_ .f32) j = sixtyFour := by
  show (sixtyFour : EReal) - (sitofp .f32 (constantI S_ 32 0#32) : FVec Ideal S_ .f32) j = sixtyFour
  rw [sitofp_zero_word, sub_zero]

/-- The reference's second layer and its result, from arrays. -/
def refSecond (h : FVec Ideal S64x512 .f32) (g1 be1 : FVec Ideal S512 .f32) (w2 : FVec Ideal S512x256 .f32) (b2 : FVec Ideal S256 .f32) : FVec Ideal S64x256 .f32 :=
  refDense256 (refNorm512 h (refCentre512 h) (subf (constant S_ .f32 0x42800000#32) (sitofp .f32 (constantI S_ 32 0#32))) g1 be1) w2 b2
def refHead (h : FVec Ideal S64x256 .f32) (g2 be2 : FVec Ideal S256 .f32) (w3 : FVec Ideal S256x8 .f32) (b3 : FVec Ideal S8 .f32) : FVec Ideal S64x8 .f32 :=
  refDense8 (refNorm256 h (refCentre256 h) (subf (constant S_ .f32 0x42800000#32) (sitofp .f32 (constantI S_ 32 0#32))) g2 be2) w3 b3

theorem refSecond_apply (h : FVec Ideal S64x512 .f32) (g1 be1 : FVec Ideal S512 .f32) (w2 : FVec Ideal S512x256 .f32) (b2 : FVec Ideal S256 .f32) (s : Fin 64) (c : Fin 256) :
    refSecond h g1 be1 w2 b2 (ix2 s c) = dense (fun s x => leakyGe (normDiv (fun s c => h (ix2 s c)) g1 be1 s x)) w2 b2 s c := by
  unfold refSecond
  rw [refDense256_apply]
  simp only [refNorm512_apply _ _ _ _ _ _ _ (rows_value _) (refCentre512_apply h)]

theorem refHead_apply (h : FVec Ideal S64x256 .f32) (g2 be2 : FVec Ideal S256 .f32) (w3 : FVec Ideal S256x8 .f32) (b3 : FVec Ideal S8 .f32) (s : Fin 64) (c : Fin 8) :
    refHead h g2 be2 w3 b3 (ix2 s c) = dense (fun s x => leakyGe (normDiv (fun s c => h (ix2 s c)) g2 be2 s x)) w3 b3 s c := by
  unfold refHead
  rw [refDense8_apply]
  simp only [refNorm256_apply _ _ _ _ _ _ _ (rows_value _) (refCentre256_apply h)]

theorem head_ref (h : FVec Ideal S64x512 .f32) (g1 be1 : FVec Ideal S512 .f32) (w2 : FVec Ideal S512x256 .f32) (b2 g2 be2 : FVec Ideal S256 .f32) (w3 : FVec Ideal S256x8 .f32) (b3 : FVec Ideal S8 .f32)
    (s : Fin 64) (c : Fin 8) :
    refHead (refSecond h g1 be1 w2 b2) g2 be2 w3 b3 (ix2 s c) = headDiv (fun s c => h (ix2 s c)) g1 be1 w2 b2 g2 be2 w3 b3 s c := by
  rw [refHead_apply]
  simp only [refSecond_apply]
  rfl

/-- The reference's result, as its run leaves it. -/
theorem v50_eq : Value.res_main_v50 V0 = refSecond (Value.res_main_v26 V0) (V0 (Proc.devRef .tc main_arg4)) (V0 (Proc.devRef .tc main_arg5)) (V0 (Proc.devRef .tc main_arg6)) (V0 (Proc.devRef .tc main_arg7)) := rfl

theorem v69_eq : Value.res_main_v69 V0 = refNorm256 (Value.res_main_v50 V0) (refCentre256 (Value.res_main_v50 V0)) (subf (constant S_ .f32 0x42800000#32) (sitofp .f32 (constantI S_ 32 0#32))) (V0 (Proc.devRef .tc main_arg8)) (V0 (Proc.devRef .tc main_arg9)) := rfl

end Cert.Proof.Pool

end
-- ==== Proof.Algebraic.lean ====
module

public import proofs.«01_k».proof.Proof.MatchRef
public import proofs.«01_k».proof.Proof.FirstRef
public import proofs.«01_k».proof.Proof.FirstKernel
public import proofs.«01_k».proof.Proof.Frames

/-!
# The kernel's result is the reference's

The first layers agree once the segment numbers do not decrease; from there on the two heads are the
same plain maths, written with a product on one side and a quotient on the other.
-/

@[expose] public section

noncomputable section

namespace Cert.Proof.Pool

open Idealize.ShloMosaic Idealize.ShloMosaic.Pointwise

/-- Both programs' results, of one set of arguments. -/
theorem values_agree (V0 : Valuation Cert.ReferenceIdeal.τ Cert.ReferenceIdeal.sig (Elt Ideal))
    (hr : ∀ j, (V0 (Proc.devRef .tc Cert.ReferenceIdeal.main_arg1) j : BitVec 32).toNat < 64)
    (hg : Sorted (segOf (V0 (Proc.devRef .tc Cert.ReferenceIdeal.main_arg1))) 50000) :
    headVal (F := Ideal) (partMax (F := Ideal) (V0 (Proc.devRef .tc Cert.ReferenceIdeal.main_arg0)) (V0 (Proc.devRef .tc Cert.ReferenceIdeal.main_arg1))) (partSum (F := Ideal) (V0 (Proc.devRef .tc Cert.ReferenceIdeal.main_arg0)) (V0 (Proc.devRef .tc Cert.ReferenceIdeal.main_arg1))) (partCnt (F := Ideal) (V0 (Proc.devRef .tc Cert.ReferenceIdeal.main_arg0)) (V0 (Proc.devRef .tc Cert.ReferenceIdeal.main_arg1)))
        (V0 (Proc.devRef .tc Cert.ReferenceIdeal.main_arg2)) (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6)) (V0 (Proc.devRef .tc Cert.ReferenceIdeal.main_arg7)) (V0 (Proc.devRef .tc Cert.ReferenceIdeal.main_arg8)) (V0 (Proc.devRef .tc Cert.ReferenceIdeal.main_arg9)) (V0 (Proc.devRef .tc Cert.ReferenceIdeal.main_arg10)) (V0 (Proc.devRef .tc Cert.ReferenceIdeal.main_arg11))
      = refHead (refSecond (Cert.ReferenceIdeal.Value.res_main_v26 V0) (V0 (Proc.devRef .tc Cert.ReferenceIdeal.main_arg4)) (V0 (Proc.devRef .tc Cert.ReferenceIdeal.main_arg5)) (V0 (Proc.devRef .tc Cert.ReferenceIdeal.main_arg6)) (V0 (Proc.devRef .tc Cert.ReferenceIdeal.main_arg7)))
          (V0 (Proc.devRef .tc Cert.ReferenceIdeal.main_arg8)) (V0 (Proc.devRef .tc Cert.ReferenceIdeal.main_arg9)) (V0 (Proc.devRef .tc Cert.ReferenceIdeal.main_arg10)) (V0 (Proc.devRef .tc Cert.ReferenceIdeal.main_arg11)) := by
  have hf : kFirst (partMax (F := Ideal) (V0 (Proc.devRef .tc Cert.ReferenceIdeal.main_arg0)) (V0 (Proc.devRef .tc Cert.ReferenceIdeal.main_arg1))) (partSum (F := Ideal) (V0 (Proc.devRef .tc Cert.ReferenceIdeal.main_arg0)) (V0 (Proc.devRef .tc Cert.ReferenceIdeal.main_arg1))) (partCnt (F := Ideal) (V0 (Proc.devRef .tc Cert.ReferenceIdeal.main_arg0)) (V0 (Proc.devRef .tc Cert.ReferenceIdeal.main_arg1))) (V0 (Proc.devRef .tc Cert.ReferenceIdeal.main_arg2)) (V0 (Proc.devRef .tc Cert.ReferenceIdeal.main_arg3))
      = fun s c => Cert.ReferenceIdeal.Value.res_main_v26 V0 (ix2 s c) := by
    funext s c
    exact (first_kernel _ hg _ _ s c).trans (first_ref V0 hr s c).symm
  funext j
  obtain ⟨s, c, rfl⟩ := ix2_ex j
  refine (head_kernel _ _ _ _ _ _ _ _ _ _ _ _ _ s c).trans ?_
  rw [hf, head_eq]
  exact (head_ref _ _ _ _ _ _ _ _ _ s c).symm

/-- The reference's last value, from its last normalised layer. -/
theorem ref_value (V0 : Valuation Cert.ReferenceIdeal.τ Cert.ReferenceIdeal.sig (Elt Ideal)) :
    refDense8 (Cert.ReferenceIdeal.Value.res_main_v69 V0) (V0 (Proc.devRef .tc Cert.ReferenceIdeal.main_arg10)) (V0 (Proc.devRef .tc Cert.ReferenceIdeal.main_arg11))
      = refHead (refSecond (Cert.ReferenceIdeal.Value.res_main_v26 V0) (V0 (Proc.devRef .tc Cert.ReferenceIdeal.main_arg4)) (V0 (Proc.devRef .tc Cert.ReferenceIdeal.main_arg5)) (V0 (Proc.devRef .tc Cert.ReferenceIdeal.main_arg6)) (V0 (Proc.devRef .tc Cert.ReferenceIdeal.main_arg7)))
          (V0 (Proc.devRef .tc Cert.ReferenceIdeal.main_arg8)) (V0 (Proc.devRef .tc Cert.ReferenceIdeal.main_arg9)) (V0 (Proc.devRef .tc Cert.ReferenceIdeal.main_arg10)) (V0 (Proc.devRef .tc Cert.ReferenceIdeal.main_arg11)) := by
  refine (congrArg (fun z => refDense8 z (V0 (Proc.devRef .tc Cert.ReferenceIdeal.main_arg10)) (V0 (Proc.devRef .tc Cert.ReferenceIdeal.main_arg11))) (v69_eq V0)).trans ?_
  rw [v50_eq]
  rfl

/-! ## The precondition says that the segment numbers do not decrease -/

/-- A word at most another as signed numbers, both below 64. -/
theorem le_of_sle (v w : BitVec 32) (hv : v.toNat < 64) (hw : w.toNat < 64) (e : IntOp.cmpi .sle v w = 1#1) : v.toNat ≤ w.toNat := by
  simp only [IntOp.cmpi, ofBool_eq_one, BitVec.sle_eq_decide, decide_eq_true_eq, BitVec.toInt_eq_toNat_cond, Nat.reducePow] at e
  omega

/-- Steps that do not go down make a sorted row. -/
theorem sorted_of_steps (f : ℕ → BitVec 32) (N : ℕ) (h : ∀ n, n + 1 < N → (f n).toNat ≤ (f (n + 1)).toNat) : Sorted f N := by
  intro a b hab
  induction b, hab using Nat.le_induction with
  | base => exact fun _ => le_rfl
  | succ b _ ih => exact fun hb => (ih (by omega)).trans (h b hb)

theorem sorted_of_slices (g : Cert.KernelIdeal.S50000.Idx → BitVec 32) (h0 : Cert.KernelIdeal.S50000.Slices ![0] Cert.Pre_ids_sorted_in_range.S49999)
    (h1 : Cert.KernelIdeal.S50000.Slices ![1] Cert.Pre_ids_sorted_in_range.S49999) (hr : ∀ j, (g j).toNat < 64)
    (h : ∀ j, IntOp.cmpi .sle (extractStridedSlice Cert.Pre_ids_sorted_in_range.S49999 ![0] g h0 j)
      (extractStridedSlice Cert.Pre_ids_sorted_in_range.S49999 ![1] g h1 j) = 1#1) : Sorted (segOf g) 50000 := by
  refine sorted_of_steps _ _ fun n hn => ?_
  have e := le_of_sle _ _ (hr _) (hr _) (h (ix1 (⟨n, by omega⟩ : Fin 49999)))
  have i0 : segOf g n = extractStridedSlice Cert.Pre_ids_sorted_in_range.S49999 ![0] g h0 (ix1 (⟨n, by omega⟩ : Fin 49999)) := by
    unfold segOf extractStridedSlice
    refine congrArg g (funext fun a => ?_)
    fin_cases a
    refine Fin.ext ?_
    show n % 50000 = 0 + n
    omega
  have i1 : segOf g (n + 1) = extractStridedSlice Cert.Pre_ids_sorted_in_range.S49999 ![1] g h1 (ix1 (⟨n, by omega⟩ : Fin 49999)) := by
    unfold segOf extractStridedSlice
    refine congrArg g (funext fun a => ?_)
    fin_cases a
    refine Fin.ext ?_
    show (n + 1) % 50000 = 1 + n
    omega
  rw [i0, i1]
  exact e

/-- The sorted precondition, at one device. -/
theorem sorted_of_pre [Cert.Pre_ids_sorted_in_range.Facts]
    (m : (ℓ : Loc Cert.KernelIdeal.nD Cert.KernelIdeal.τ Cert.KernelIdeal.sig) → Buf (Elt Ideal) ℓ) (c : Dev Cert.KernelIdeal.nD) (hr : ∀ j, (m (gLoc c) j : BitVec 32).toNat < 64)
    (h : (Cert.Pre_ids_sorted_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2 = fun _ => 1#1) : Sorted (segOf (m (gLoc c))) 50000 :=
  sorted_of_slices _ _ _ hr fun j => congrFun h j

end Cert.Proof.Pool

end
-- ==== Proof.lean ====
/- The frames, and the equality of the kernel's value and the reference's over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import Idealize.ShloMosaic.Adequacy
public import proofs.«01_k».proof.Proof.Same
public import proofs.«01_k».proof.Proof.Algebraic
public import Idealize.ShloMosaic.Init

@[expose] public section

noncomputable section

namespace Cert.Proof

open Idealize.ShloMosaic Idealize.SL.Sem Cert.Kernel

instance rangeFacts : Cert.Pre_ids_in_range.Facts where
  bcast_S_S50000 := by decide

/-- The kernel over words runs to its end, leaving its arguments and every counter at zero. -/
theorem frame_kernel : Cert.quiescent_Kernel (hKernel := Cert.Kernel.Gen.facts) (hPre_ids_in_range := rangeFacts) := by
  intro m ρ hpre
  rw [Pool.same_defs]
  exact (θ_run Cert.KernelIdeal.defs _ _).mono (fun _ h => ⟨fun c => Pool.args_kept m h c, h.2⟩)
    (Pool.run_main (F := Bits) m ρ (Pool.ok_in_range m hpre))

/-- So does the kernel over the extended reals. -/
theorem frame_ideal : Cert.quiescent_KernelIdeal (hKernelIdeal := Cert.KernelIdeal.Gen.facts) (hPre_ids_in_range := rangeFacts) := fun m ρ hpre =>
  (θ_run Cert.KernelIdeal.defs _ _).mono (fun _ h => ⟨fun c => Pool.args_kept m h c, h.2⟩)
    (Pool.run_main (F := Ideal) m ρ (Pool.ok_in_range m hpre))

/-- So does the reference. -/
theorem frame_ref : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

instance sortedFacts : Cert.Pre_ids_sorted_in_range.Facts where
  bcast_S_S50000 := by decide
  slices_S50000_S49999_0 := by decide
  slices_S50000_S49999_1 := by decide

/-- The kernel over the extended reals, on sorted segment numbers. -/
theorem frame_ideal_sorted : Cert.quiescent_KernelIdeal_pre_ids_sorted_in_range (hKernelIdeal := Cert.KernelIdeal.Gen.facts) (hPre_ids_sorted_in_range := sortedFacts) := fun m ρ hpre =>
  (θ_run Cert.KernelIdeal.defs _ _).mono (fun _ h => ⟨fun c => Pool.args_kept m h c, h.2⟩)
    (Pool.run_main (F := Ideal) m ρ (Pool.ok_sorted m fun c => (hpre c).1))

/-- The reference, on sorted segment numbers. -/
theorem frame_ref_sorted : Cert.quiescent_ReferenceIdeal_pre_ids_sorted_in_range (hReferenceIdeal := Cert.ReferenceIdeal.Gen.facts) (hPre_ids_sorted_in_range := sortedFacts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- What both programs leave at a device. -/
def outcome (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v1) :=
  Pool.headVal (F := Ideal) (Pool.partMax (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (Pool.partSum (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (Pool.partCnt (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))

/-- The reference's last value is the kernel's, of a memory whose arguments are the same. -/
theorem outcome_ref (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (hr : ∀ j, (m (Pool.gLoc c) j : BitVec 32).toNat < 64) (hg : Pool.Sorted (Pool.segOf (m (Pool.gLoc c))) 50000)
    (e0 : V0 (Proc.devRef .tc Cert.ReferenceIdeal.main_arg0) = m ((c.tc : Thread Cert.KernelIdeal.nD Cert.KernelIdeal.τ).loc Cert.KernelIdeal.main_arg0))
    (e1 : V0 (Proc.devRef .tc Cert.ReferenceIdeal.main_arg1) = m ((c.tc : Thread Cert.KernelIdeal.nD Cert.KernelIdeal.τ).loc Cert.KernelIdeal.main_arg1))
    (e2 : V0 (Proc.devRef .tc Cert.ReferenceIdeal.main_arg2) = m ((c.tc : Thread Cert.KernelIdeal.nD Cert.KernelIdeal.τ).loc Cert.KernelIdeal.main_arg2))
    (e3 : V0 (Proc.devRef .tc Cert.ReferenceIdeal.main_arg3) = m ((c.tc : Thread Cert.KernelIdeal.nD Cert.KernelIdeal.τ).loc Cert.KernelIdeal.main_arg3))
    (e4 : V0 (Proc.devRef .tc Cert.ReferenceIdeal.main_arg4) = m ((c.tc : Thread Cert.KernelIdeal.nD Cert.KernelIdeal.τ).loc Cert.KernelIdeal.main_arg4))
    (e5 : V0 (Proc.devRef .tc Cert.ReferenceIdeal.main_arg5) = m ((c.tc : Thread Cert.KernelIdeal.nD Cert.KernelIdeal.τ).loc Cert.KernelIdeal.main_arg5))
    (e6 : V0 (Proc.devRef .tc Cert.ReferenceIdeal.main_arg6) = m ((c.tc : Thread Cert.KernelIdeal.nD Cert.KernelIdeal.τ).loc Cert.KernelIdeal.main_arg6))
    (e7 : V0 (Proc.devRef .tc Cert.ReferenceIdeal.main_arg7) = m ((c.tc : Thread Cert.KernelIdeal.nD Cert.KernelIdeal.τ).loc Cert.KernelIdeal.main_arg7))
    (e8 : V0 (Proc.devRef .tc Cert.ReferenceIdeal.main_arg8) = m ((c.tc : Thread Cert.KernelIdeal.nD Cert.KernelIdeal.τ).loc Cert.KernelIdeal.main_arg8))
    (e9 : V0 (Proc.devRef .tc Cert.ReferenceIdeal.main_arg9) = m ((c.tc : Thread Cert.KernelIdeal.nD Cert.KernelIdeal.τ).loc Cert.KernelIdeal.main_arg9))
    (e10 : V0 (Proc.devRef .tc Cert.ReferenceIdeal.main_arg10) = m ((c.tc : Thread Cert.KernelIdeal.nD Cert.KernelIdeal.τ).loc Cert.KernelIdeal.main_arg10))
    (e11 : V0 (Proc.devRef .tc Cert.ReferenceIdeal.main_arg11) = m ((c.tc : Thread Cert.KernelIdeal.nD Cert.KernelIdeal.τ).loc Cert.KernelIdeal.main_arg11)) :
    Pool.refDense8 (Cert.ReferenceIdeal.Value.res_main_v69 V0) (V0 (Proc.devRef .tc Cert.ReferenceIdeal.main_arg10)) (V0 (Proc.devRef .tc Cert.ReferenceIdeal.main_arg11))
      = outcome m c := by
  have hr' : ∀ j, (V0 (Proc.devRef .tc Cert.ReferenceIdeal.main_arg1) j : BitVec 32).toNat < 64 := fun j => by
    rw [e1]; exact hr j
  have hg' : Pool.Sorted (Pool.segOf (V0 (Proc.devRef .tc Cert.ReferenceIdeal.main_arg1))) 50000 := by
    rw [e1]; exact hg
  refine (Pool.ref_value V0).trans ((Pool.values_agree V0 hr' hg').symm.trans ?_)
  unfold outcome
  rw [e0, e1, e2, e3, e4, e5, e6, e7, e8, e9, e10, e11]

/-- Over the extended reals, on sorted segment numbers, the kernel leaves what the reference leaves. -/
theorem algebraic_sorted : Cert.algebraic_KernelIdeal_ReferenceIdeal_pre_ids_sorted_in_range (hKernelIdeal := Cert.KernelIdeal.Gen.facts)
    (hReferenceIdeal := Cert.ReferenceIdeal.Gen.facts) (hPre_ids_sorted_in_range := sortedFacts) := fun m ρ m' ρ' hpre hin =>
  have ok := Pool.ok_sorted m fun c => (hpre c).1
  ⟨outcome m,
    (θ_run Cert.KernelIdeal.defs _ _).mono (fun _ h c => ⟨Pool.result m h c, Pool.args_kept m h c⟩) (Pool.run_main (F := Ideal) m ρ ok),
    (θ_run Cert.ReferenceIdeal.defs _ _).mono
      (fun _ h c => ⟨(h c).1.trans (by
        obtain ⟨e0, e1, e2, e3, e4, e5, e6, e7, e8, e9, e10, e11⟩ := hin c
        exact (outcome_ref m c (StableHlo.launchContents m' c) (ok c) (Pool.sorted_of_pre m c (ok c) (hpre c).2) e0 e1 e2 e3 e4 e5 e6 e7 e8 e9 e10 e11)), (h c).2⟩)
      (Cert.ReferenceIdeal.Value.run m' ρ')⟩

theorem claim : Cert.Claim :=
  ⟨Cert.Kernel.Gen.facts, Cert.KernelIdeal.Gen.facts, Cert.ReferenceIdeal.Gen.facts, rangeFacts, sortedFacts,
    frame_kernel, frame_ideal, frame_ideal_sorted, frame_ref, frame_ref_sorted, trivial, algebraic_sorted⟩

end Cert.Proof

end
